-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_ReferenceInprojIdeal (m : (ℓ : Loc Cert.ReferenceInprojIdeal.nD Cert.ReferenceInprojIdeal.τ Cert.ReferenceInprojIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojIdeal_finite_router [hPre_finite_router : Cert.Pre_finite_router.Facts] (m : (ℓ : Loc Cert.OutprojIdeal.nD Cert.OutprojIdeal.τ Cert.OutprojIdeal.sig) → Buf (Elt Ideal) ℓ) : Prop :=
  ∀ c : Dev Cert.OutprojIdeal.nD,
    (Cert.Pre_finite_router.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7))).1 = (fun _ => 1#1)
    ∧ (Cert.Pre_finite_router.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7))).2 = (fun _ => 1#1)

def Pre_ReferenceOutprojIdeal (m : (ℓ : Loc Cert.ReferenceOutprojIdeal.nD Cert.ReferenceOutprojIdeal.τ Cert.ReferenceOutprojIdeal.sig) → Buf (Elt Ideal) ℓ) : Prop :=
  True

def Pre_ReferenceOutprojIdeal_finite_router [hPre_finite_router : Cert.Pre_finite_router.Facts] (m : (ℓ : Loc Cert.ReferenceOutprojIdeal.nD Cert.ReferenceOutprojIdeal.τ Cert.ReferenceOutprojIdeal.sig) → Buf (Elt Ideal) ℓ) : Prop :=
  ∀ c : Dev Cert.ReferenceOutprojIdeal.nD,
    (Cert.Pre_finite_router.fn (F := Ideal) (m ((c.tc : Thread Cert.ReferenceOutprojIdeal.nD Cert.ReferenceOutprojIdeal.τ).loc Cert.ReferenceOutprojIdeal.main_arg0)) (m ((c.tc : Thread Cert.ReferenceOutprojIdeal.nD Cert.ReferenceOutprojIdeal.τ).loc Cert.ReferenceOutprojIdeal.main_arg1)) (m ((c.tc : Thread Cert.ReferenceOutprojIdeal.nD Cert.ReferenceOutprojIdeal.τ).loc Cert.ReferenceOutprojIdeal.main_arg2)) (m ((c.tc : Thread Cert.ReferenceOutprojIdeal.nD Cert.ReferenceOutprojIdeal.τ).loc Cert.ReferenceOutprojIdeal.main_arg3)) (m ((c.tc : Thread Cert.ReferenceOutprojIdeal.nD Cert.ReferenceOutprojIdeal.τ).loc Cert.ReferenceOutprojIdeal.main_arg4)) (m ((c.tc : Thread Cert.ReferenceOutprojIdeal.nD Cert.ReferenceOutprojIdeal.τ).loc Cert.ReferenceOutprojIdeal.main_arg5)) (m ((c.tc : Thread Cert.ReferenceOutprojIdeal.nD Cert.ReferenceOutprojIdeal.τ).loc Cert.ReferenceOutprojIdeal.main_arg6)) (m ((c.tc : Thread Cert.ReferenceOutprojIdeal.nD Cert.ReferenceOutprojIdeal.τ).loc Cert.ReferenceOutprojIdeal.main_arg7))).1 = (fun _ => 1#1)
    ∧ (Cert.Pre_finite_router.fn (F := Ideal) (m ((c.tc : Thread Cert.ReferenceOutprojIdeal.nD Cert.ReferenceOutprojIdeal.τ).loc Cert.ReferenceOutprojIdeal.main_arg0)) (m ((c.tc : Thread Cert.ReferenceOutprojIdeal.nD Cert.ReferenceOutprojIdeal.τ).loc Cert.ReferenceOutprojIdeal.main_arg1)) (m ((c.tc : Thread Cert.ReferenceOutprojIdeal.nD Cert.ReferenceOutprojIdeal.τ).loc Cert.ReferenceOutprojIdeal.main_arg2)) (m ((c.tc : Thread Cert.ReferenceOutprojIdeal.nD Cert.ReferenceOutprojIdeal.τ).loc Cert.ReferenceOutprojIdeal.main_arg3)) (m ((c.tc : Thread Cert.ReferenceOutprojIdeal.nD Cert.ReferenceOutprojIdeal.τ).loc Cert.ReferenceOutprojIdeal.main_arg4)) (m ((c.tc : Thread Cert.ReferenceOutprojIdeal.nD Cert.ReferenceOutprojIdeal.τ).loc Cert.ReferenceOutprojIdeal.main_arg5)) (m ((c.tc : Thread Cert.ReferenceOutprojIdeal.nD Cert.ReferenceOutprojIdeal.τ).loc Cert.ReferenceOutprojIdeal.main_arg6)) (m ((c.tc : Thread Cert.ReferenceOutprojIdeal.nD Cert.ReferenceOutprojIdeal.τ).loc Cert.ReferenceOutprojIdeal.main_arg7))).2 = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ReferenceExpertsIdeal (m : (ℓ : Loc Cert.ReferenceExpertsIdeal.nD Cert.ReferenceExpertsIdeal.τ Cert.ReferenceExpertsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_ReferenceInprojIdeal [hReferenceInprojIdeal : Cert.ReferenceInprojIdeal.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7))
      ∧ r.2.sem = fun _ => 0)

def quiescent_OutprojIdeal_pre_finite_router [hOutprojIdeal : Cert.OutprojIdeal.Facts] [hPre_finite_router : Cert.Pre_finite_router.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal_finite_router m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7))
      ∧ r.2.sem = fun _ => 0)

def quiescent_ReferenceOutprojIdeal [hReferenceOutprojIdeal : Cert.ReferenceOutprojIdeal.Facts] : Prop :=
  ∀ (m : (ℓ : Loc Cert.ReferenceOutprojIdeal.nD Cert.ReferenceOutprojIdeal.τ Cert.ReferenceOutprojIdeal.sig) → Buf (Elt Ideal) ℓ) (g : Dev Cert.ReferenceOutprojIdeal.nD → PrngReg), Pre_ReferenceOutprojIdeal m →
    θ_run (Cert.ReferenceOutprojIdeal.defs (F := Ideal)) (onTc (τ := Cert.ReferenceOutprojIdeal.τ) (Cert.ReferenceOutprojIdeal.main (F := Ideal))) ⟨m, fun _ => 0, g⟩ (fun r => (∀ c : Dev Cert.ReferenceOutprojIdeal.nD,
      r.2.mem ((c.tc : Thread Cert.ReferenceOutprojIdeal.nD Cert.ReferenceOutprojIdeal.τ).loc Cert.ReferenceOutprojIdeal.main_arg0) = m ((c.tc : Thread Cert.ReferenceOutprojIdeal.nD Cert.ReferenceOutprojIdeal.τ).loc Cert.ReferenceOutprojIdeal.main_arg0)
      ∧ r.2.mem ((c.tc : Thread Cert.ReferenceOutprojIdeal.nD Cert.ReferenceOutprojIdeal.τ).loc Cert.ReferenceOutprojIdeal.main_arg1) = m ((c.tc : Thread Cert.ReferenceOutprojIdeal.nD Cert.ReferenceOutprojIdeal.τ).loc Cert.ReferenceOutprojIdeal.main_arg1)
      ∧ r.2.mem ((c.tc : Thread Cert.ReferenceOutprojIdeal.nD Cert.ReferenceOutprojIdeal.τ).loc Cert.ReferenceOutprojIdeal.main_arg2) = m ((c.tc : Thread Cert.ReferenceOutprojIdeal.nD Cert.ReferenceOutprojIdeal.τ).loc Cert.ReferenceOutprojIdeal.main_arg2)
      ∧ r.2.mem ((c.tc : Thread Cert.ReferenceOutprojIdeal.nD Cert.ReferenceOutprojIdeal.τ).loc Cert.ReferenceOutprojIdeal.main_arg3) = m ((c.tc : Thread Cert.ReferenceOutprojIdeal.nD Cert.ReferenceOutprojIdeal.τ).loc Cert.ReferenceOutprojIdeal.main_arg3)
      ∧ r.2.mem ((c.tc : Thread Cert.ReferenceOutprojIdeal.nD Cert.ReferenceOutprojIdeal.τ).loc Cert.ReferenceOutprojIdeal.main_arg4) = m ((c.tc : Thread Cert.ReferenceOutprojIdeal.nD Cert.ReferenceOutprojIdeal.τ).loc Cert.ReferenceOutprojIdeal.main_arg4)
      ∧ r.2.mem ((c.tc : Thread Cert.ReferenceOutprojIdeal.nD Cert.ReferenceOutprojIdeal.τ).loc Cert.ReferenceOutprojIdeal.main_arg5) = m ((c.tc : Thread Cert.ReferenceOutprojIdeal.nD Cert.ReferenceOutprojIdeal.τ).loc Cert.ReferenceOutprojIdeal.main_arg5)
      ∧ r.2.mem ((c.tc : Thread Cert.ReferenceOutprojIdeal.nD Cert.ReferenceOutprojIdeal.τ).loc Cert.ReferenceOutprojIdeal.main_arg6) = m ((c.tc : Thread Cert.ReferenceOutprojIdeal.nD Cert.ReferenceOutprojIdeal.τ).loc Cert.ReferenceOutprojIdeal.main_arg6)
      ∧ r.2.mem ((c.tc : Thread Cert.ReferenceOutprojIdeal.nD Cert.ReferenceOutprojIdeal.τ).loc Cert.ReferenceOutprojIdeal.main_arg7) = m ((c.tc : Thread Cert.ReferenceOutprojIdeal.nD Cert.ReferenceOutprojIdeal.τ).loc Cert.ReferenceOutprojIdeal.main_arg7))
      ∧ r.2.sem = fun _ => 0)

def quiescent_ReferenceOutprojIdeal_pre_finite_router [hReferenceOutprojIdeal : Cert.ReferenceOutprojIdeal.Facts] [hPre_finite_router : Cert.Pre_finite_router.Facts] : Prop :=
  ∀ (m : (ℓ : Loc Cert.ReferenceOutprojIdeal.nD Cert.ReferenceOutprojIdeal.τ Cert.ReferenceOutprojIdeal.sig) → Buf (Elt Ideal) ℓ) (g : Dev Cert.ReferenceOutprojIdeal.nD → PrngReg), Pre_ReferenceOutprojIdeal_finite_router m →
    θ_run (Cert.ReferenceOutprojIdeal.defs (F := Ideal)) (onTc (τ := Cert.ReferenceOutprojIdeal.τ) (Cert.ReferenceOutprojIdeal.main (F := Ideal))) ⟨m, fun _ => 0, g⟩ (fun r => (∀ c : Dev Cert.ReferenceOutprojIdeal.nD,
      r.2.mem ((c.tc : Thread Cert.ReferenceOutprojIdeal.nD Cert.ReferenceOutprojIdeal.τ).loc Cert.ReferenceOutprojIdeal.main_arg0) = m ((c.tc : Thread Cert.ReferenceOutprojIdeal.nD Cert.ReferenceOutprojIdeal.τ).loc Cert.ReferenceOutprojIdeal.main_arg0)
      ∧ r.2.mem ((c.tc : Thread Cert.ReferenceOutprojIdeal.nD Cert.ReferenceOutprojIdeal.τ).loc Cert.ReferenceOutprojIdeal.main_arg1) = m ((c.tc : Thread Cert.ReferenceOutprojIdeal.nD Cert.ReferenceOutprojIdeal.τ).loc Cert.ReferenceOutprojIdeal.main_arg1)
      ∧ r.2.mem ((c.tc : Thread Cert.ReferenceOutprojIdeal.nD Cert.ReferenceOutprojIdeal.τ).loc Cert.ReferenceOutprojIdeal.main_arg2) = m ((c.tc : Thread Cert.ReferenceOutprojIdeal.nD Cert.ReferenceOutprojIdeal.τ).loc Cert.ReferenceOutprojIdeal.main_arg2)
      ∧ r.2.mem ((c.tc : Thread Cert.ReferenceOutprojIdeal.nD Cert.ReferenceOutprojIdeal.τ).loc Cert.ReferenceOutprojIdeal.main_arg3) = m ((c.tc : Thread Cert.ReferenceOutprojIdeal.nD Cert.ReferenceOutprojIdeal.τ).loc Cert.ReferenceOutprojIdeal.main_arg3)
      ∧ r.2.mem ((c.tc : Thread Cert.ReferenceOutprojIdeal.nD Cert.ReferenceOutprojIdeal.τ).loc Cert.ReferenceOutprojIdeal.main_arg4) = m ((c.tc : Thread Cert.ReferenceOutprojIdeal.nD Cert.ReferenceOutprojIdeal.τ).loc Cert.ReferenceOutprojIdeal.main_arg4)
      ∧ r.2.mem ((c.tc : Thread Cert.ReferenceOutprojIdeal.nD Cert.ReferenceOutprojIdeal.τ).loc Cert.ReferenceOutprojIdeal.main_arg5) = m ((c.tc : Thread Cert.ReferenceOutprojIdeal.nD Cert.ReferenceOutprojIdeal.τ).loc Cert.ReferenceOutprojIdeal.main_arg5)
      ∧ r.2.mem ((c.tc : Thread Cert.ReferenceOutprojIdeal.nD Cert.ReferenceOutprojIdeal.τ).loc Cert.ReferenceOutprojIdeal.main_arg6) = m ((c.tc : Thread Cert.ReferenceOutprojIdeal.nD Cert.ReferenceOutprojIdeal.τ).loc Cert.ReferenceOutprojIdeal.main_arg6)
      ∧ r.2.mem ((c.tc : Thread Cert.ReferenceOutprojIdeal.nD Cert.ReferenceOutprojIdeal.τ).loc Cert.ReferenceOutprojIdeal.main_arg7) = m ((c.tc : Thread Cert.ReferenceOutprojIdeal.nD Cert.ReferenceOutprojIdeal.τ).loc Cert.ReferenceOutprojIdeal.main_arg7))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ReferenceExpertsIdeal [hReferenceExpertsIdeal : Cert.ReferenceExpertsIdeal.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_ReferenceInprojIdeal [hInprojIdeal : Cert.InprojIdeal.Facts] [hReferenceInprojIdeal : Cert.ReferenceInprojIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.ReferenceInprojIdeal.nD Cert.ReferenceInprojIdeal.τ Cert.ReferenceInprojIdeal.sig) → Buf (Elt Ideal) ℓ) (g' : Dev Cert.ReferenceInprojIdeal.nD → PrngReg), Pre_InprojIdeal m →
    (∀ c : Dev Cert.InprojIdeal.nD,
      m' ((c.tc : Thread Cert.ReferenceInprojIdeal.nD Cert.ReferenceInprojIdeal.τ).loc Cert.ReferenceInprojIdeal.main_arg0) = m ((c.tc : Thread Cert.InprojIdeal.nD Cert.InprojIdeal.τ).loc Cert.InprojIdeal.main_arg0)
      ∧ m' ((c.tc : Thread Cert.ReferenceInprojIdeal.nD Cert.ReferenceInprojIdeal.τ).loc Cert.ReferenceInprojIdeal.main_arg1) = m ((c.tc : Thread Cert.InprojIdeal.nD Cert.InprojIdeal.τ).loc Cert.InprojIdeal.main_arg1)
      ∧ m' ((c.tc : Thread Cert.ReferenceInprojIdeal.nD Cert.ReferenceInprojIdeal.τ).loc Cert.ReferenceInprojIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v4_0)) (v1 : (c : Dev Cert.InprojIdeal.nD) → Buf (Elt Ideal) ((c.tc : Thread Cert.InprojIdeal.nD Cert.InprojIdeal.τ).loc Cert.InprojIdeal.main_v4_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v4_0) = v0 c
          ∧ r.2.mem ((c.tc : Thread Cert.InprojIdeal.nD Cert.InprojIdeal.τ).loc Cert.InprojIdeal.main_v4_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.ReferenceInprojIdeal.defs (F := Ideal)) (onTc (τ := Cert.ReferenceInprojIdeal.τ) (Cert.ReferenceInprojIdeal.main (F := Ideal))) ⟨m', fun _ => 0, g'⟩ (fun r => ∀ c : Dev Cert.ReferenceInprojIdeal.nD,
          r.2.mem ((c.tc : Thread Cert.ReferenceInprojIdeal.nD Cert.ReferenceInprojIdeal.τ).loc Cert.ReferenceInprojIdeal.main_v19) = v0 c
          ∧ r.2.mem ((c.tc : Thread Cert.ReferenceInprojIdeal.nD Cert.ReferenceInprojIdeal.τ).loc Cert.ReferenceInprojIdeal.main_v20) = v1 c
          ∧ r.2.mem ((c.tc : Thread Cert.ReferenceInprojIdeal.nD Cert.ReferenceInprojIdeal.τ).loc Cert.ReferenceInprojIdeal.main_arg0) = m' ((c.tc : Thread Cert.ReferenceInprojIdeal.nD Cert.ReferenceInprojIdeal.τ).loc Cert.ReferenceInprojIdeal.main_arg0)
          ∧ r.2.mem ((c.tc : Thread Cert.ReferenceInprojIdeal.nD Cert.ReferenceInprojIdeal.τ).loc Cert.ReferenceInprojIdeal.main_arg1) = m' ((c.tc : Thread Cert.ReferenceInprojIdeal.nD Cert.ReferenceInprojIdeal.τ).loc Cert.ReferenceInprojIdeal.main_arg1)
          ∧ r.2.mem ((c.tc : Thread Cert.ReferenceInprojIdeal.nD Cert.ReferenceInprojIdeal.τ).loc Cert.ReferenceInprojIdeal.main_arg2) = m' ((c.tc : Thread Cert.ReferenceInprojIdeal.nD Cert.ReferenceInprojIdeal.τ).loc Cert.ReferenceInprojIdeal.main_arg2))

def preserves_Outproj_OutprojIdeal : Prop :=
  True

def algebraic_OutprojIdeal_ReferenceOutprojIdeal_pre_finite_router [hOutprojIdeal : Cert.OutprojIdeal.Facts] [hReferenceOutprojIdeal : Cert.ReferenceOutprojIdeal.Facts] [hPre_finite_router : Cert.Pre_finite_router.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.ReferenceOutprojIdeal.nD Cert.ReferenceOutprojIdeal.τ Cert.ReferenceOutprojIdeal.sig) → Buf (Elt Ideal) ℓ) (g' : Dev Cert.ReferenceOutprojIdeal.nD → PrngReg), Pre_OutprojIdeal_finite_router m →
    (∀ c : Dev Cert.OutprojIdeal.nD,
      m' ((c.tc : Thread Cert.ReferenceOutprojIdeal.nD Cert.ReferenceOutprojIdeal.τ).loc Cert.ReferenceOutprojIdeal.main_arg0) = m ((c.tc : Thread Cert.OutprojIdeal.nD Cert.OutprojIdeal.τ).loc Cert.OutprojIdeal.main_arg0)
      ∧ m' ((c.tc : Thread Cert.ReferenceOutprojIdeal.nD Cert.ReferenceOutprojIdeal.τ).loc Cert.ReferenceOutprojIdeal.main_arg1) = m ((c.tc : Thread Cert.OutprojIdeal.nD Cert.OutprojIdeal.τ).loc Cert.OutprojIdeal.main_arg1)
      ∧ m' ((c.tc : Thread Cert.ReferenceOutprojIdeal.nD Cert.ReferenceOutprojIdeal.τ).loc Cert.ReferenceOutprojIdeal.main_arg2) = m ((c.tc : Thread Cert.OutprojIdeal.nD Cert.OutprojIdeal.τ).loc Cert.OutprojIdeal.main_arg2)
      ∧ m' ((c.tc : Thread Cert.ReferenceOutprojIdeal.nD Cert.ReferenceOutprojIdeal.τ).loc Cert.ReferenceOutprojIdeal.main_arg3) = m ((c.tc : Thread Cert.OutprojIdeal.nD Cert.OutprojIdeal.τ).loc Cert.OutprojIdeal.main_arg3)
      ∧ m' ((c.tc : Thread Cert.ReferenceOutprojIdeal.nD Cert.ReferenceOutprojIdeal.τ).loc Cert.ReferenceOutprojIdeal.main_arg4) = m ((c.tc : Thread Cert.OutprojIdeal.nD Cert.OutprojIdeal.τ).loc Cert.OutprojIdeal.main_arg4)
      ∧ m' ((c.tc : Thread Cert.ReferenceOutprojIdeal.nD Cert.ReferenceOutprojIdeal.τ).loc Cert.ReferenceOutprojIdeal.main_arg5) = m ((c.tc : Thread Cert.OutprojIdeal.nD Cert.OutprojIdeal.τ).loc Cert.OutprojIdeal.main_arg5)
      ∧ m' ((c.tc : Thread Cert.ReferenceOutprojIdeal.nD Cert.ReferenceOutprojIdeal.τ).loc Cert.ReferenceOutprojIdeal.main_arg6) = m ((c.tc : Thread Cert.OutprojIdeal.nD Cert.OutprojIdeal.τ).loc Cert.OutprojIdeal.main_arg6)
      ∧ m' ((c.tc : Thread Cert.ReferenceOutprojIdeal.nD Cert.ReferenceOutprojIdeal.τ).loc Cert.ReferenceOutprojIdeal.main_arg7) = m ((c.tc : Thread Cert.OutprojIdeal.nD Cert.OutprojIdeal.τ).loc Cert.OutprojIdeal.main_arg7)) →
    ∃ (v0 : (c : Dev Cert.OutprojIdeal.nD) → Buf (Elt Ideal) ((c.tc : Thread Cert.OutprojIdeal.nD Cert.OutprojIdeal.τ).loc Cert.OutprojIdeal.main_v18_0)) (v1 : (c : Dev Cert.OutprojIdeal.nD) → Buf (Elt Ideal) ((c.tc : Thread Cert.OutprojIdeal.nD Cert.OutprojIdeal.τ).loc Cert.OutprojIdeal.main_v18_1)) (v2 : (c : Dev Cert.OutprojIdeal.nD) → Buf (Elt Ideal) ((c.tc : Thread Cert.OutprojIdeal.nD Cert.OutprojIdeal.τ).loc Cert.OutprojIdeal.main_v18_2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v18_0) = v0 c
          ∧ r.2.mem ((c.tc : Thread Cert.OutprojIdeal.nD Cert.OutprojIdeal.τ).loc Cert.OutprojIdeal.main_v18_1) = v1 c
          ∧ r.2.mem ((c.tc : Thread Cert.OutprojIdeal.nD Cert.OutprojIdeal.τ).loc Cert.OutprojIdeal.main_v18_2) = v2 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7))
      ∧ θ_run (Cert.ReferenceOutprojIdeal.defs (F := Ideal)) (onTc (τ := Cert.ReferenceOutprojIdeal.τ) (Cert.ReferenceOutprojIdeal.main (F := Ideal))) ⟨m', fun _ => 0, g'⟩ (fun r => ∀ c : Dev Cert.ReferenceOutprojIdeal.nD,
          r.2.mem ((c.tc : Thread Cert.ReferenceOutprojIdeal.nD Cert.ReferenceOutprojIdeal.τ).loc Cert.ReferenceOutprojIdeal.main_v34) = v0 c
          ∧ r.2.mem ((c.tc : Thread Cert.ReferenceOutprojIdeal.nD Cert.ReferenceOutprojIdeal.τ).loc Cert.ReferenceOutprojIdeal.main_v64) = v1 c
          ∧ r.2.mem ((c.tc : Thread Cert.ReferenceOutprojIdeal.nD Cert.ReferenceOutprojIdeal.τ).loc Cert.ReferenceOutprojIdeal.main_v65) = v2 c
          ∧ r.2.mem ((c.tc : Thread Cert.ReferenceOutprojIdeal.nD Cert.ReferenceOutprojIdeal.τ).loc Cert.ReferenceOutprojIdeal.main_arg0) = m' ((c.tc : Thread Cert.ReferenceOutprojIdeal.nD Cert.ReferenceOutprojIdeal.τ).loc Cert.ReferenceOutprojIdeal.main_arg0)
          ∧ r.2.mem ((c.tc : Thread Cert.ReferenceOutprojIdeal.nD Cert.ReferenceOutprojIdeal.τ).loc Cert.ReferenceOutprojIdeal.main_arg1) = m' ((c.tc : Thread Cert.ReferenceOutprojIdeal.nD Cert.ReferenceOutprojIdeal.τ).loc Cert.ReferenceOutprojIdeal.main_arg1)
          ∧ r.2.mem ((c.tc : Thread Cert.ReferenceOutprojIdeal.nD Cert.ReferenceOutprojIdeal.τ).loc Cert.ReferenceOutprojIdeal.main_arg2) = m' ((c.tc : Thread Cert.ReferenceOutprojIdeal.nD Cert.ReferenceOutprojIdeal.τ).loc Cert.ReferenceOutprojIdeal.main_arg2)
          ∧ r.2.mem ((c.tc : Thread Cert.ReferenceOutprojIdeal.nD Cert.ReferenceOutprojIdeal.τ).loc Cert.ReferenceOutprojIdeal.main_arg3) = m' ((c.tc : Thread Cert.ReferenceOutprojIdeal.nD Cert.ReferenceOutprojIdeal.τ).loc Cert.ReferenceOutprojIdeal.main_arg3)
          ∧ r.2.mem ((c.tc : Thread Cert.ReferenceOutprojIdeal.nD Cert.ReferenceOutprojIdeal.τ).loc Cert.ReferenceOutprojIdeal.main_arg4) = m' ((c.tc : Thread Cert.ReferenceOutprojIdeal.nD Cert.ReferenceOutprojIdeal.τ).loc Cert.ReferenceOutprojIdeal.main_arg4)
          ∧ r.2.mem ((c.tc : Thread Cert.ReferenceOutprojIdeal.nD Cert.ReferenceOutprojIdeal.τ).loc Cert.ReferenceOutprojIdeal.main_arg5) = m' ((c.tc : Thread Cert.ReferenceOutprojIdeal.nD Cert.ReferenceOutprojIdeal.τ).loc Cert.ReferenceOutprojIdeal.main_arg5)
          ∧ r.2.mem ((c.tc : Thread Cert.ReferenceOutprojIdeal.nD Cert.ReferenceOutprojIdeal.τ).loc Cert.ReferenceOutprojIdeal.main_arg6) = m' ((c.tc : Thread Cert.ReferenceOutprojIdeal.nD Cert.ReferenceOutprojIdeal.τ).loc Cert.ReferenceOutprojIdeal.main_arg6)
          ∧ r.2.mem ((c.tc : Thread Cert.ReferenceOutprojIdeal.nD Cert.ReferenceOutprojIdeal.τ).loc Cert.ReferenceOutprojIdeal.main_arg7) = m' ((c.tc : Thread Cert.ReferenceOutprojIdeal.nD Cert.ReferenceOutprojIdeal.τ).loc Cert.ReferenceOutprojIdeal.main_arg7))

def preserves_Experts_ExpertsIdeal : Prop :=
  True

def algebraic_ExpertsIdeal_ReferenceExpertsIdeal [hExpertsIdeal : Cert.ExpertsIdeal.Facts] [hReferenceExpertsIdeal : Cert.ReferenceExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ReferenceExpertsIdeal.nD Cert.ReferenceExpertsIdeal.τ Cert.ReferenceExpertsIdeal.sig) → Buf (Elt Ideal) ℓ) (g' : Dev Cert.ReferenceExpertsIdeal.nD → PrngReg), Pre_ExpertsIdeal m →
    (∀ c : Dev Cert.ExpertsIdeal.nD,
      m' ((c.tc : Thread Cert.ReferenceExpertsIdeal.nD Cert.ReferenceExpertsIdeal.τ).loc Cert.ReferenceExpertsIdeal.main_arg0) = m ((c.tc : Thread Cert.ExpertsIdeal.nD Cert.ExpertsIdeal.τ).loc Cert.ExpertsIdeal.main_arg0)
      ∧ m' ((c.tc : Thread Cert.ReferenceExpertsIdeal.nD Cert.ReferenceExpertsIdeal.τ).loc Cert.ReferenceExpertsIdeal.main_arg1) = m ((c.tc : Thread Cert.ExpertsIdeal.nD Cert.ExpertsIdeal.τ).loc Cert.ExpertsIdeal.main_arg1)
      ∧ m' ((c.tc : Thread Cert.ReferenceExpertsIdeal.nD Cert.ReferenceExpertsIdeal.τ).loc Cert.ReferenceExpertsIdeal.main_arg2) = m ((c.tc : Thread Cert.ExpertsIdeal.nD Cert.ExpertsIdeal.τ).loc Cert.ExpertsIdeal.main_arg2)
      ∧ m' ((c.tc : Thread Cert.ReferenceExpertsIdeal.nD Cert.ReferenceExpertsIdeal.τ).loc Cert.ReferenceExpertsIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ReferenceExpertsIdeal.defs (F := Ideal)) (onTc (τ := Cert.ReferenceExpertsIdeal.τ) (Cert.ReferenceExpertsIdeal.main (F := Ideal))) ⟨m', fun _ => 0, g'⟩ (fun r => ∀ c : Dev Cert.ReferenceExpertsIdeal.nD,
          r.2.mem ((c.tc : Thread Cert.ReferenceExpertsIdeal.nD Cert.ReferenceExpertsIdeal.τ).loc Cert.ReferenceExpertsIdeal.main_v29) = v0 c
          ∧ r.2.mem ((c.tc : Thread Cert.ReferenceExpertsIdeal.nD Cert.ReferenceExpertsIdeal.τ).loc Cert.ReferenceExpertsIdeal.main_arg0) = m' ((c.tc : Thread Cert.ReferenceExpertsIdeal.nD Cert.ReferenceExpertsIdeal.τ).loc Cert.ReferenceExpertsIdeal.main_arg0)
          ∧ r.2.mem ((c.tc : Thread Cert.ReferenceExpertsIdeal.nD Cert.ReferenceExpertsIdeal.τ).loc Cert.ReferenceExpertsIdeal.main_arg1) = m' ((c.tc : Thread Cert.ReferenceExpertsIdeal.nD Cert.ReferenceExpertsIdeal.τ).loc Cert.ReferenceExpertsIdeal.main_arg1)
          ∧ r.2.mem ((c.tc : Thread Cert.ReferenceExpertsIdeal.nD Cert.ReferenceExpertsIdeal.τ).loc Cert.ReferenceExpertsIdeal.main_arg2) = m' ((c.tc : Thread Cert.ReferenceExpertsIdeal.nD Cert.ReferenceExpertsIdeal.τ).loc Cert.ReferenceExpertsIdeal.main_arg2)
          ∧ r.2.mem ((c.tc : Thread Cert.ReferenceExpertsIdeal.nD Cert.ReferenceExpertsIdeal.τ).loc Cert.ReferenceExpertsIdeal.main_arg3) = m' ((c.tc : Thread Cert.ReferenceExpertsIdeal.nD Cert.ReferenceExpertsIdeal.τ).loc Cert.ReferenceExpertsIdeal.main_arg3))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hReferenceInprojIdeal : Cert.ReferenceInprojIdeal.Facts) (hOutproj : Cert.Outproj.Facts) (hOutprojIdeal : Cert.OutprojIdeal.Facts) (hReferenceOutprojIdeal : Cert.ReferenceOutprojIdeal.Facts) (hExperts : Cert.Experts.Facts) (hExpertsIdeal : Cert.ExpertsIdeal.Facts) (hReferenceExpertsIdeal : Cert.ReferenceExpertsIdeal.Facts) (hPre_finite_logits : Cert.Pre_finite_logits.Facts) (hPre_finite_router : Cert.Pre_finite_router.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Inproj (hInproj := hInproj)
    ∧ quiescent_InprojIdeal (hInprojIdeal := hInprojIdeal)
    ∧ quiescent_ReferenceInprojIdeal (hReferenceInprojIdeal := hReferenceInprojIdeal)
    ∧ quiescent_Outproj (hOutproj := hOutproj)
    ∧ quiescent_OutprojIdeal (hOutprojIdeal := hOutprojIdeal)
    ∧ quiescent_OutprojIdeal_pre_finite_router (hOutprojIdeal := hOutprojIdeal) (hPre_finite_router := hPre_finite_router)
    ∧ quiescent_ReferenceOutprojIdeal (hReferenceOutprojIdeal := hReferenceOutprojIdeal)
    ∧ quiescent_ReferenceOutprojIdeal_pre_finite_router (hReferenceOutprojIdeal := hReferenceOutprojIdeal) (hPre_finite_router := hPre_finite_router)
    ∧ quiescent_Experts (hExperts := hExperts)
    ∧ quiescent_ExpertsIdeal (hExpertsIdeal := hExpertsIdeal)
    ∧ quiescent_ReferenceExpertsIdeal (hReferenceExpertsIdeal := hReferenceExpertsIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Inproj_InprojIdeal
    ∧ algebraic_InprojIdeal_ReferenceInprojIdeal (hInprojIdeal := hInprojIdeal) (hReferenceInprojIdeal := hReferenceInprojIdeal)
    ∧ preserves_Outproj_OutprojIdeal
    ∧ algebraic_OutprojIdeal_ReferenceOutprojIdeal_pre_finite_router (hOutprojIdeal := hOutprojIdeal) (hReferenceOutprojIdeal := hReferenceOutprojIdeal) (hPre_finite_router := hPre_finite_router)
    ∧ preserves_Experts_ExpertsIdeal
    ∧ algebraic_ExpertsIdeal_ReferenceExpertsIdeal (hExpertsIdeal := hExpertsIdeal) (hReferenceExpertsIdeal := hReferenceExpertsIdeal)
-- ==== Pre_finite_logits.lean ====
abbrev S49152x1536 : Shape := ⟨2, ![49152, 1536]⟩
abbrev S32x8 : Shape := ⟨2, ![32, 8]⟩
abbrev S8 : Shape := ⟨1, ![8]⟩
abbrev S49152x1280 : Shape := ⟨2, ![49152, 1280]⟩
abbrev S_ : Shape := ⟨0, ![]⟩

class Facts : Prop where
  bitsLt_bf16_f32 : FTy.bits .bf16 < FTy.bits .f32
  slices_S49152x1536_S49152x1280_0_0 : S49152x1536.Slices ![0, 0] S49152x1280
  bcast_S_S49152x1280 : S_.BroadcastsInDim S49152x1280 (![] : Fin 0 → Fin S49152x1280.rank)
  bcast_S_S32x8 : S_.BroadcastsInDim S32x8 (![] : Fin 0 → Fin S32x8.rank)
  bcast_S_S8 : S_.BroadcastsInDim S8 (![] : Fin 0 → Fin S8.rank)

variable [Facts]

def fn {F : FTy → Type} [FloatOps F] (main_arg0 : FVec F S49152x1536 .bf16) (main_arg1 : FVec F S32x8 .f32) (main_arg2 : FVec F S8 .f32) : IVec S49152x1280 1 × IVec S32x8 1 × IVec S8 1 :=
  let main_v0 : FVec F S49152x1536 .f32 := (extf .f32 · bitsLt_bf16_f32) main_arg0
  let main_v1 : FVec F S49152x1280 .f32 := (extractStridedSlice S49152x1280 ![0, 0] · slices_S49152x1536_S49152x1280_0_0) main_v0
  let main_v2 : FVec F S49152x1280 .f32 := Host.absf main_v1
  let main_cst : FVec F S_ .f32 := constant S_ .f32 0x7F800000#32
  let main_v3 : FVec F S49152x1280 .f32 := broadcastInDim S49152x1280 ![] bcast_S_S49152x1280 main_cst
  let main_v4 : IVec S49152x1280 1 := cmpf .olt main_v2 main_v3
  let main_v5 : FVec F S32x8 .f32 := Host.absf main_arg1
  let main_cst_0 : FVec F S_ .f32 := constant S_ .f32 0x7F800000#32
  let main_v6 : FVec F S32x8 .f32 := broadcastInDim S32x8 ![] bcast_S_S32x8 main_cst_0
  let main_v7 : IVec S32x8 1 := cmpf .olt main_v5 main_v6
  let main_v8 : FVec F S8 .f32 := Host.absf main_arg2
  let main_cst_1 : FVec F S_ .f32 := constant S_ .f32 0x7F800000#32
  let main_v9 : FVec F S8 .f32 := broadcastInDim S8 ![] bcast_S_S8 main_cst_1
  let main_v10 : IVec S8 1 := cmpf .olt main_v8 main_v9
  (main_v4, main_v7, main_v10)
-- ==== Pre_finite_router.lean ====
abbrev S49152x1024 : Shape := ⟨2, ![49152, 1024]⟩
abbrev S49152x2048 : Shape := ⟨2, ![49152, 2048]⟩
abbrev S4x1024 : Shape := ⟨2, ![4, 1024]⟩
abbrev S4x2048x2048 : Shape := ⟨3, ![4, 2048, 2048]⟩
abbrev S4x2048 : Shape := ⟨2, ![4, 2048]⟩
abbrev S4x2048x16 : Shape := ⟨3, ![4, 2048, 16]⟩
abbrev S1x2048 : Shape := ⟨2, ![1, 2048]⟩
abbrev S2048 : Shape := ⟨1, ![2048]⟩
abbrev S_ : Shape := ⟨0, ![]⟩
abbrev S1x2048x16 : Shape := ⟨3, ![1, 2048, 16]⟩
abbrev S2048x16 : Shape := ⟨2, ![2048, 16]⟩

class Facts : Prop where
  slices_S4x2048_S1x2048_1_0 : S4x2048.Slices ![1, 0] S1x2048
  shapeCasts_S1x2048_S2048 : S1x2048.ShapeCasts S2048
  bcast_S_S2048 : S_.BroadcastsInDim S2048 (![] : Fin 0 → Fin S2048.rank)
  slices_S4x2048x16_S1x2048x16_1_0_0 : S4x2048x16.Slices ![1, 0, 0] S1x2048x16
  shapeCasts_S1x2048x16_S2048x16 : S1x2048x16.ShapeCasts S2048x16
  bcast_S_S2048x16 : S_.BroadcastsInDim S2048x16 (![] : Fin 0 → Fin S2048x16.rank)

variable [Facts]

def fn {F : FTy → Type} [FloatOps F] (main_arg0 : FVec F S49152x1024 .f32) (main_arg1 : FVec F S49152x1024 .f32) (main_arg2 : FVec F S49152x2048 .f32) (main_arg3 : FVec F S4x1024 .f32) (main_arg4 : FVec F S4x1024 .f32) (main_arg5 : FVec F S4x2048x2048 .f32) (main_arg6 : FVec F S4x2048 .f32) (main_arg7 : FVec F S4x2048x16 .f32) : IVec S2048 1 × IVec S2048x16 1 :=
  let main_v0 : FVec F S1x2048 .f32 := (extractStridedSlice S1x2048 ![1, 0] · slices_S4x2048_S1x2048_1_0) main_arg6
  let main_v1 : FVec F S2048 .f32 := shapeCast S2048 main_v0 shapeCasts_S1x2048_S2048
  let main_v2 : FVec F S2048 .f32 := Host.absf main_v1
  let main_cst : FVec F S_ .f32 := constant S_ .f32 0x7F800000#32
  let main_v3 : FVec F S2048 .f32 := broadcastInDim S2048 ![] bcast_S_S2048 main_cst
  let main_v4 : IVec S2048 1 := cmpf .olt main_v2 main_v3
  let main_v5 : FVec F S1x2048x16 .f32 := (extractStridedSlice S1x2048x16 ![1, 0, 0] · slices_S4x2048x16_S1x2048x16_1_0_0) main_arg7
  let main_v6 : FVec F S2048x16 .f32 := shapeCast S2048x16 main_v5 shapeCasts_S1x2048x16_S2048x16
  let main_v7 : FVec F S2048x16 .f32 := Host.absf main_v6
  let main_cst_0 : FVec F S_ .f32 := constant S_ .f32 0x7F800000#32
  let main_v8 : FVec F S2048x16 .f32 := broadcastInDim S2048x16 ![] bcast_S_S2048x16 main_cst_0
  let main_v9 : IVec S2048x16 1 := cmpf .olt main_v7 main_v8
  (main_v4, main_v9)
-- ==== Kernel.lean ====
abbrev S49152x1536 : Shape := ⟨2, ![49152, 1536]⟩
abbrev S32x8 : Shape := ⟨2, ![32, 8]⟩
abbrev S8 : Shape := ⟨1, ![8]⟩
abbrev S128x384 : Shape := ⟨2, ![128, 384]⟩
abbrev S128x384x1 : Shape := ⟨3, ![128, 384, 1]⟩
abbrev S32 : Shape := ⟨1, ![32]⟩
abbrev S1x1x32 : Shape := ⟨3, ![1, 1, 32]⟩
abbrev S128x384x32 : Shape := ⟨3, ![128, 384, 32]⟩
abbrev S8x128x384 : Shape := ⟨3, ![8, 128, 384]⟩
abbrev S8x1x1 : Shape := ⟨3, ![8, 1, 1]⟩
abbrev S8x1x128 : Shape := ⟨3, ![8, 1, 128]⟩
abbrev S6x8192x1536 : Shape := ⟨3, ![6, 8192, 1536]⟩
abbrev S6x8192x1024 : Shape := ⟨3, ![6, 8192, 1024]⟩
abbrev S1x2048x512 : Shape := ⟨3, ![1, 2048, 512]⟩
abbrev S1x128x128 : Shape := ⟨3, ![1, 128, 128]⟩
abbrev S1x2048x128 : Shape := ⟨3, ![1, 2048, 128]⟩
abbrev S4x128x384 : Shape := ⟨3, ![4, 128, 384]⟩
abbrev S4x1x128 : Shape := ⟨3, ![4, 1, 128]⟩
abbrev S64x128x384 : Shape := ⟨3, ![64, 128, 384]⟩
abbrev S64x128x1 : Shape := ⟨3, ![64, 128, 1]⟩
abbrev S128x128 : Shape := ⟨2, ![128, 128]⟩
abbrev S2048x128 : Shape := ⟨2, ![2048, 128]⟩
abbrev S2304x128 : Shape := ⟨2, ![2304, 128]⟩
abbrev S1x1x128 : Shape := ⟨3, ![1, 1, 128]⟩
abbrev S1x128 : Shape := ⟨2, ![1, 128]⟩
abbrev S1x1 : Shape := ⟨2, ![1, 1]⟩
abbrev S384x128 : Shape := ⟨2, ![384, 128]⟩
abbrev S384x256 : Shape := ⟨2, ![384, 256]⟩
abbrev S1x128x384 : Shape := ⟨3, ![1, 128, 384]⟩
abbrev S128 : Shape := ⟨1, ![128]⟩
abbrev S128x1 : Shape := ⟨2, ![128, 1]⟩
abbrev S1x128x1 : Shape := ⟨3, ![1, 128, 1]⟩
abbrev S128x256 : Shape := ⟨2, ![128, 256]⟩

abbrev nBuf : Space → Nat
  | .hbm => 16
  | .vmem => 24
  | .smem => 0
  | _ => 0

abbrev bufTy : (tb : Table) → Fin (tcTables nBuf tb) → BufTy
  | .hbm, ⟨0, _⟩ => ⟨S49152x1536, .bf16⟩
  | .hbm, ⟨1, _⟩ => ⟨S32x8, .f32⟩
  | .hbm, ⟨2, _⟩ => ⟨S8, .f32⟩
  | .hbm, ⟨3, _⟩ => ⟨S128x384, .i32⟩
  | .hbm, ⟨4, _⟩ => ⟨S128x384x1, .i32⟩
  | .hbm, ⟨5, _⟩ => ⟨S32, .i32⟩
  | .hbm, ⟨6, _⟩ => ⟨S1x1x32, .i32⟩
  | .hbm, ⟨7, _⟩ => ⟨S128x384x32, .i32⟩
  | .hbm, ⟨8, _⟩ => ⟨S128x384x32, .i32⟩
  | .hbm, ⟨9, _⟩ => ⟨S128x384x32, .i1⟩
  | .hbm, ⟨10, _⟩ => ⟨S128x384x32, .f32⟩
  | .hbm, ⟨11, _⟩ => ⟨S8x128x384, .f32⟩
  | .hbm, ⟨12, _⟩ => ⟨S8x1x1, .f32⟩
  | .hbm, ⟨13, _⟩ => ⟨S8x1x128, .f32⟩
  | .hbm, ⟨14, _⟩ => ⟨S6x8192x1536, .bf16⟩
  | .hbm, ⟨15, _⟩ => ⟨S6x8192x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x128x128, .bf16⟩
  | .local _ .vmem, ⟨13, _⟩ => ⟨S1x128x128, .bf16⟩
  | .local _ .vmem, ⟨14, _⟩ => ⟨S4x128x384, .f32⟩
  | .local _ .vmem, ⟨15, _⟩ => ⟨S4x128x384, .f32⟩
  | .local _ .vmem, ⟨16, _⟩ => ⟨S4x1x128, .f32⟩
  | .local _ .vmem, ⟨17, _⟩ => ⟨S4x1x128, .f32⟩
  | .local _ .vmem, ⟨18, _⟩ => ⟨S1x2048x512, .f32⟩
  | .local _ .vmem, ⟨19, _⟩ => ⟨S1x2048x512, .f32⟩
  | .local _ .vmem, ⟨20, _⟩ => ⟨S64x128x384, .f32⟩
  | .local _ .vmem, ⟨21, _⟩ => ⟨S64x128x384, .bf16⟩
  | .local _ .vmem, ⟨22, _⟩ => ⟨S64x128x1, .f32⟩
  | .local _ .vmem, ⟨23, _⟩ => ⟨S64x128x1, .f32⟩
  | _, _ => ⟨S49152x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![6, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c16_i32_0 : BitVec 32 := 16#32
  let v1 : BitVec 32 := Scalar.addi v0 c16_i32_0
  let c63_i32 : BitVec 32 := 63#32
  let v2 : BitVec 32 := Scalar.minsi v1 c63_i32
  let c8_i32 : BitVec 32 := 8#32
  let v3 : BitVec 32 := Scalar.addi c8_i32 arg1
  let c0_i32 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let v3 : BitVec 32 := Scalar.addi c10_i32 arg1
  let c0_i32_0 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, arg2.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c16_i32_0 : BitVec 32 := 16#32
  let v1 : BitVec 32 := Scalar.addi v0 c16_i32_0
  let c63_i32 : BitVec 32 := 63#32
  let v2 : BitVec 32 := Scalar.minsi v1 c63_i32
  let c10_i32 : BitVec 32 := 10#32
  let v3 : BitVec 32 := Scalar.addi c10_i32 arg1
  let c0_i32 : BitVec 32 := 0#32
  ![arg0.toNat, v2.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4x128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S4x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((Real.sqrt 128)⁻¹ * (Real.log 2)⁻¹ : ℝ) : EReal)
  | _ => none
-- ==== ReferenceIdeal.lean ====
abbrev S49152x1536 : Shape := ⟨2, ![49152, 1536]⟩
abbrev S32x8 : Shape := ⟨2, ![32, 8]⟩
abbrev S8 : Shape := ⟨1, ![8]⟩
abbrev S128x384 : Shape := ⟨2, ![128, 384]⟩
abbrev S6x8192x1536 : Shape := ⟨3, ![6, 8192, 1536]⟩
abbrev S6x8192x1024 : Shape := ⟨3, ![6, 8192, 1024]⟩
abbrev S6x8192x256 : Shape := ⟨3, ![6, 8192, 256]⟩
abbrev S6x64x128x2x4x128 : Shape := ⟨6, ![6, 64, 128, 2, 4, 128]⟩
abbrev S6x8192x2x128 : Shape := ⟨4, ![6, 8192, 2, 128]⟩
abbrev S_ : Shape := ⟨0, ![]⟩
abbrev S6x8448x2x128 : Shape := ⟨4, ![6, 8448, 2, 128]⟩
abbrev S6x66x128x2x128 : Shape := ⟨5, ![6, 66, 128, 2, 128]⟩
abbrev S6x64x128x2x128 : Shape := ⟨5, ![6, 64, 128, 2, 128]⟩
abbrev S6x64x384x2x128 : Shape := ⟨5, ![6, 64, 384, 2, 128]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S64 : Shape := ⟨1, ![64]⟩
abbrev S64x1 : Shape := ⟨2, ![64, 1]⟩
abbrev S384 : Shape := ⟨1, ![384]⟩
abbrev S1x384 : Shape := ⟨2, ![1, 384]⟩
abbrev S64x384 : Shape := ⟨2, ![64, 384]⟩
abbrev S128 : Shape := ⟨1, ![128]⟩
abbrev S128x1 : Shape := ⟨2, ![128, 1]⟩
abbrev S1x128x384 : Shape := ⟨3, ![1, 128, 384]⟩
abbrev S64x1x384 : Shape := ⟨3, ![64, 1, 384]⟩
abbrev S64x128x384 : Shape := ⟨3, ![64, 128, 384]⟩
abbrev S6x64x2x384x128x4 : Shape := ⟨6, ![6, 64, 2, 384, 128, 4]⟩
abbrev S6x64x2x4x128x384 : Shape := ⟨6, ![6, 64, 2, 4, 128, 384]⟩
abbrev S1x1x2x4x128x384 : Shape := ⟨6, ![1, 1, 2, 4, 128, 384]⟩
abbrev S1x64x1x1x128x384 : Shape := ⟨6, ![1, 64, 1, 1, 128, 384]⟩
abbrev S2x4 : Shape := ⟨2, ![2, 4]⟩
abbrev S1x1x2x4x1x1 : Shape := ⟨6, ![1, 1, 2, 4, 1, 1]⟩
abbrev S6x64x2x4x128 : Shape := ⟨5, ![6, 64, 2, 4, 128]⟩
abbrev S6x64x2x4x128x1 : Shape := ⟨6, ![6, 64, 2, 4, 128, 1]⟩
abbrev S6x64x2x128x4x128 : Shape := ⟨6, ![6, 64, 2, 128, 4, 128]⟩

abbrev nBuf : Space → Nat
  | .hbm => 114
  | .vmem => 0
  | .smem => 0
  | _ => 0

abbrev bufTy : (tb : Table) → Fin (tcTables nBuf tb) → BufTy
  | .hbm, ⟨0, _⟩ => ⟨S49152x1536, .bf16⟩
  | .hbm, ⟨1, _⟩ => ⟨S32x8, .f32⟩
  | .hbm, ⟨2, _⟩ => ⟨S8, .f32⟩
  | .hbm, ⟨3, _⟩ => ⟨S128x384, .i32⟩
  | .hbm, ⟨4, _⟩ => ⟨S128x384, .i1⟩
  | .hbm, ⟨5, _⟩ => ⟨S49152x1536, .f32⟩
  | .hbm, ⟨6, _⟩ => ⟨S6x8192x1536, .f32⟩
  | .hbm, ⟨7, _⟩ => ⟨S6x8192x1024, .f32⟩
  | .hbm, ⟨8, _⟩ => ⟨S6x8192x256, .f32⟩
  | .hbm, ⟨9, _⟩ => ⟨S6x8192x256, .f32⟩
  | .hbm, ⟨10, _⟩ => ⟨S6x64x128x2x4x128, .f32⟩
  | .hbm, ⟨11, _⟩ => ⟨S6x8192x2x128, .f32⟩
  | .hbm, ⟨12, _⟩ => ⟨S_, .i32⟩
  | .hbm, ⟨13, _⟩ => ⟨S_, .f32⟩
  | .hbm, ⟨14, _⟩ => ⟨S6x8448x2x128, .f32⟩
  | .hbm, ⟨15, _⟩ => ⟨S6x66x128x2x128, .f32⟩
  | .hbm, ⟨16, _⟩ => ⟨S6x64x128x2x128, .f32⟩
  | .hbm, ⟨17, _⟩ => ⟨S6x64x128x2x128, .f32⟩
  | .hbm, ⟨18, _⟩ => ⟨S6x64x128x2x128, .f32⟩
  | .hbm, ⟨19, _⟩ => ⟨S6x64x384x2x128, .f32⟩
  | .hbm, ⟨20, _⟩ => ⟨S6x8192x2x128, .f32⟩
  | .hbm, ⟨21, _⟩ => ⟨S_, .i32⟩
  | .hbm, ⟨22, _⟩ => ⟨S_, .f32⟩
  | .hbm, ⟨23, _⟩ => ⟨S6x8448x2x128, .f32⟩
  | .hbm, ⟨24, _⟩ => ⟨S6x66x128x2x128, .f32⟩
  | .hbm, ⟨25, _⟩ => ⟨S6x64x128x2x128, .f32⟩
  | .hbm, ⟨26, _⟩ => ⟨S6x64x128x2x128, .f32⟩
  | .hbm, ⟨27, _⟩ => ⟨S6x64x128x2x128, .f32⟩
  | .hbm, ⟨28, _⟩ => ⟨S6x64x384x2x128, .f32⟩
  | .hbm, ⟨29, _⟩ => ⟨S_, .i32⟩
  | .hbm, ⟨30, _⟩ => ⟨S128x384, .i32⟩
  | .hbm, ⟨31, _⟩ => ⟨S128x384, .i32⟩
  | .hbm, ⟨32, _⟩ => ⟨S128x384, .i32⟩
  | .hbm, ⟨33, _⟩ => ⟨S128x384x1, .i32⟩
  | .hbm, ⟨34, _⟩ => ⟨S128x384x8, .f32⟩
  | .hbm, ⟨35, _⟩ => ⟨S8x128x384, .f32⟩
  | .hbm, ⟨36, _⟩ => ⟨S2x4x128x384, .f32⟩
  | .hbm, ⟨37, _⟩ => ⟨S64, .i32⟩
  | .hbm, ⟨38, _⟩ => ⟨S64x1, .i32⟩
  | .hbm, ⟨39, _⟩ => ⟨S_, .i32⟩
  | .hbm, ⟨40, _⟩ => ⟨S64x1, .i32⟩
  | .hbm, ⟨41, _⟩ => ⟨S64x1, .i32⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S384, .i32⟩
  | .hbm, ⟨46, _⟩ => ⟨S1x384, .i32⟩
  | .hbm, ⟨47, _⟩ => ⟨S64x384, .i32⟩
  | .hbm, ⟨48, _⟩ => ⟨S64x384, .i32⟩
  | .hbm, ⟨49, _⟩ => ⟨S64x384, .i32⟩
  | .hbm, ⟨50, _⟩ => ⟨S384, .i32⟩
  | .hbm, ⟨51, _⟩ => ⟨S1x384, .i32⟩
  | .hbm, ⟨52, _⟩ => ⟨S_, .i32⟩
  | .hbm, ⟨53, _⟩ => ⟨S1x384, .i32⟩
  | .hbm, ⟨54, _⟩ => ⟨S1x384, .i32⟩
  | .hbm, ⟨55, _⟩ => ⟨S128, .i32⟩
  | .hbm, ⟨56, _⟩ => ⟨S128x1, .i32⟩
  | .hbm, ⟨57, _⟩ => ⟨S128x384, .i32⟩
  | .hbm, ⟨58, _⟩ => ⟨S128x384, .i32⟩
  | .hbm, ⟨59, _⟩ => ⟨S128x384, .i32⟩
  | .hbm, ⟨60, _⟩ => ⟨S128x384, .i32⟩
  | .hbm, ⟨61, _⟩ => ⟨S_, .i32⟩
  | .hbm, ⟨62, _⟩ => ⟨S128x384, .i32⟩
  | .hbm, ⟨63, _⟩ => ⟨S128x384, .i1⟩
  | .hbm, ⟨64, _⟩ => ⟨S1x128x384, .i1⟩
  | .hbm, ⟨65, _⟩ => ⟨S_, .i32⟩
  | .hbm, ⟨66, _⟩ => ⟨S64x384, .i32⟩
  | .hbm, ⟨67, _⟩ => ⟨S64x384, .i1⟩
  | .hbm, ⟨68, _⟩ => ⟨S_, .i32⟩
  | .hbm, ⟨69, _⟩ => ⟨S64x384, .i32⟩
  | .hbm, ⟨70, _⟩ => ⟨S64x384, .i1⟩
  | .hbm, ⟨71, _⟩ => ⟨S64x384, .i1⟩
  | .hbm, ⟨72, _⟩ => ⟨S64x1x384, .i1⟩
  | .hbm, ⟨73, _⟩ => ⟨S64x128x384, .i1⟩
  | .hbm, ⟨74, _⟩ => ⟨S64x128x384, .i1⟩
  | .hbm, ⟨75, _⟩ => ⟨S64x128x384, .i1⟩
  | .hbm, ⟨76, _⟩ => ⟨S6x64x2x384x128x4, .f32⟩
  | .hbm, ⟨77, _⟩ => ⟨S6x64x2x4x128x384, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S6x64x2x4x128x384, .f32⟩
  | .hbm, ⟨82, _⟩ => ⟨S6x64x2x4x128x384, .f32⟩
  | .hbm, ⟨83, _⟩ => ⟨S1x1x2x4x128x384, .f32⟩
  | .hbm, ⟨84, _⟩ => ⟨S6x64x2x4x128x384, .f32⟩
  | .hbm, ⟨85, _⟩ => ⟨S6x64x2x4x128x384, .f32⟩
  | .hbm, ⟨86, _⟩ => ⟨S1x64x1x1x128x384, .i1⟩
  | .hbm, ⟨87, _⟩ => ⟨S_, .f32⟩
  | .hbm, ⟨88, _⟩ => ⟨S_, .f32⟩
  | .hbm, ⟨89, _⟩ => ⟨S6x64x2x4x128x384, .i1⟩
  | .hbm, ⟨90, _⟩ => ⟨S6x64x2x4x128x384, .f32⟩
  | .hbm, ⟨91, _⟩ => ⟨S6x64x2x4x128x384, .f32⟩
  | .hbm, ⟨92, _⟩ => ⟨S2x4, .f32⟩
  | .hbm, ⟨93, _⟩ => ⟨S1x1x2x4x1x1, .f32⟩
  | .hbm, ⟨94, _⟩ => ⟨S_, .f32⟩
  | .hbm, ⟨95, _⟩ => ⟨S6x64x2x4x128, .f32⟩
  | .hbm, ⟨96, _⟩ => ⟨S6x64x2x4x128x1, .f32⟩
  | .hbm, ⟨97, _⟩ => ⟨S6x64x2x4x128x1, .f32⟩
  | .hbm, ⟨98, _⟩ => ⟨S6x64x2x4x128x1, .f32⟩
  | .hbm, ⟨99, _⟩ => ⟨S6x64x2x4x128x384, .f32⟩
  | .hbm, ⟨100, _⟩ => ⟨S6x64x2x4x128x384, .f32⟩
  | .hbm, ⟨101, _⟩ => ⟨S6x64x2x4x128x384, .f32⟩
  | .hbm, ⟨102, _⟩ => ⟨S_, .f32⟩
  | .hbm, ⟨103, _⟩ => ⟨S6x64x2x4x128, .f32⟩
  | .hbm, ⟨104, _⟩ => ⟨S6x64x2x4x128x1, .f32⟩
  | .hbm, ⟨105, _⟩ => ⟨S6x64x2x4x128x1, .f32⟩
  | .hbm, ⟨106, _⟩ => ⟨S6x64x2x4x128x1, .f32⟩
  | .hbm, ⟨107, _⟩ => ⟨S6x64x2x4x128x1, .f32⟩
  | .hbm, ⟨108, _⟩ => ⟨S6x64x2x4x128x1, .f32⟩
  | .hbm, ⟨109, _⟩ => ⟨S6x64x2x4x128x384, .f32⟩
  | .hbm, ⟨110, _⟩ => ⟨S6x64x2x4x128x384, .f32⟩
  | .hbm, ⟨111, _⟩ => ⟨S6x64x2x128x4x128, .f32⟩
  | .hbm, ⟨112, _⟩ => ⟨S6x64x128x2x4x128, .f32⟩
  | .hbm, ⟨113, _⟩ => ⟨S6x8192x1024, .f32⟩
  | _, _ => ⟨S49152x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_c_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_11 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩

abbrev nD : Nat := 1
abbrev τ : Topo := Topo.v7x

variable {F : FTy → Type} [FloatOps F]
-- ==== Inproj.lean ====
abbrev S49152x2048 : Shape := ⟨2, ![49152, 2048]⟩
abbrev S4x2048 : Shape := ⟨2, ![4, 2048]⟩
abbrev S4x2048x3584 : Shape := ⟨3, ![4, 2048, 3584]⟩
abbrev S1x2048 : Shape := ⟨2, ![1, 2048]⟩
abbrev S2048 : Shape := ⟨1, ![2048]⟩
abbrev S49152x1536 : Shape := ⟨2, ![49152, 1536]⟩
abbrev S512x2048 : Shape := ⟨2, ![512, 2048]⟩
abbrev S1x2048x3584 : Shape := ⟨3, ![1, 2048, 3584]⟩
abbrev S512x1536 : Shape := ⟨2, ![512, 1536]⟩
abbrev S512 : Shape := ⟨1, ![512]⟩
abbrev S512x1 : Shape := ⟨2, ![512, 1]⟩
abbrev S1x2048x1536 : Shape := ⟨3, ![1, 2048, 1536]⟩
abbrev S2048x1536 : Shape := ⟨2, ![2048, 1536]⟩
abbrev S1x2048x2048 : Shape := ⟨3, ![1, 2048, 2048]⟩
abbrev S2048x2048 : Shape := ⟨2, ![2048, 2048]⟩

abbrev nBuf : Space → Nat
  | .hbm => 9
  | .vmem => 8
  | .smem => 0
  | _ => 0

abbrev bufTy : (tb : Table) → Fin (tcTables nBuf tb) → BufTy
  | .hbm, ⟨0, _⟩ => ⟨S49152x2048, .f32⟩
  | .hbm, ⟨1, _⟩ => ⟨S4x2048, .f32⟩
  | .hbm, ⟨2, _⟩ => ⟨S4x2048x3584, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S4x2048x3584, .bf16⟩
  | .hbm, ⟨7, _⟩ => ⟨S49152x1536, .bf16⟩
  | .hbm, ⟨8, _⟩ => ⟨S49152x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x3584, .bf16⟩
  | .local _ .vmem, ⟨4, _⟩ => ⟨S512x1536, .bf16⟩
  | .local _ .vmem, ⟨5, _⟩ => ⟨S512x1536, .bf16⟩
  | .local _ .vmem, ⟨6, _⟩ => ⟨S512x2048, .f32⟩
  | .local _ .vmem, ⟨7, _⟩ => ⟨S512x2048, .f32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceInprojIdeal.lean ====
abbrev S49152x2048 : Shape := ⟨2, ![49152, 2048]⟩
abbrev S4x2048 : Shape := ⟨2, ![4, 2048]⟩
abbrev S4x2048x3584 : Shape := ⟨3, ![4, 2048, 3584]⟩
abbrev S1x2048 : Shape := ⟨2, ![1, 2048]⟩
abbrev S2048 : Shape := ⟨1, ![2048]⟩
abbrev S_ : Shape := ⟨0, ![]⟩
abbrev S49152 : Shape := ⟨1, ![49152]⟩
abbrev S49152x1 : Shape := ⟨2, ![49152, 1]⟩
abbrev S1x2048x3584 : Shape := ⟨3, ![1, 2048, 3584]⟩
abbrev S2048x3584 : Shape := ⟨2, ![2048, 3584]⟩
abbrev S49152x3584 : Shape := ⟨2, ![49152, 3584]⟩
abbrev S49152x1536 : Shape := ⟨2, ![49152, 1536]⟩

abbrev nBuf : Space → Nat
  | .hbm => 27
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S4x2048, .f32⟩
  | .hbm, ⟨2, _⟩ => ⟨S4x2048x3584, .f32⟩
  | .hbm, ⟨3, _⟩ => ⟨S1x2048, .f32⟩
  | .hbm, ⟨4, _⟩ => ⟨S2048, .f32⟩
  | .hbm, ⟨5, _⟩ => ⟨S49152x2048, .f32⟩
  | .hbm, ⟨6, _⟩ => ⟨S_, .f32⟩
  | .hbm, ⟨7, _⟩ => ⟨S49152, .f32⟩
  | .hbm, ⟨8, _⟩ => ⟨S49152x1, .f32⟩
  | .hbm, ⟨9, _⟩ => ⟨S_, .f32⟩
  | .hbm, ⟨10, _⟩ => ⟨S49152x1, .f32⟩
  | .hbm, ⟨11, _⟩ => ⟨S49152x1, .f32⟩
  | .hbm, ⟨12, _⟩ => ⟨S_, .f32⟩
  | .hbm, ⟨13, _⟩ => ⟨S49152x1, .f32⟩
  | .hbm, ⟨14, _⟩ => ⟨S49152x1, .f32⟩
  | .hbm, ⟨15, _⟩ => ⟨S49152x1, .f32⟩
  | .hbm, ⟨16, _⟩ => ⟨S49152x2048, .f32⟩
  | .hbm, ⟨17, _⟩ => ⟨S49152x2048, .f32⟩
  | .hbm, ⟨18, _⟩ => ⟨S1x2048, .f32⟩
  | .hbm, ⟨19, _⟩ => ⟨S49152x2048, .f32⟩
  | .hbm, ⟨20, _⟩ => ⟨S49152x2048, .f32⟩
  | .hbm, ⟨21, _⟩ => ⟨S1x2048x3584, .f32⟩
  | .hbm, ⟨22, _⟩ => ⟨S2048x3584, .f32⟩
  | .hbm, ⟨23, _⟩ => ⟨S49152x3584, .f32⟩
  | .hbm, ⟨24, _⟩ => ⟨S49152x1536, .f32⟩
  | .hbm, ⟨25, _⟩ => ⟨S49152x1536, .bf16⟩
  | .hbm, ⟨26, _⟩ => ⟨S49152x2048, .f32⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Outproj.lean ====
abbrev S49152x1024 : Shape := ⟨2, ![49152, 1024]⟩
abbrev S49152x2048 : Shape := ⟨2, ![49152, 2048]⟩
abbrev S4x1024 : Shape := ⟨2, ![4, 1024]⟩
abbrev S4x2048x2048 : Shape := ⟨3, ![4, 2048, 2048]⟩
abbrev S4x2048 : Shape := ⟨2, ![4, 2048]⟩
abbrev S4x2048x16 : Shape := ⟨3, ![4, 2048, 16]⟩
abbrev S1x1024 : Shape := ⟨2, ![1, 1024]⟩
abbrev S1024 : Shape := ⟨1, ![1024]⟩
abbrev S1x2048 : Shape := ⟨2, ![1, 2048]⟩
abbrev S2048 : Shape := ⟨1, ![2048]⟩
abbrev S1x2048x16 : Shape := ⟨3, ![1, 2048, 16]⟩
abbrev S2048x16 : Shape := ⟨2, ![2048, 16]⟩
abbrev S16x2048 : Shape := ⟨2, ![16, 2048]⟩
abbrev S32x2048 : Shape := ⟨2, ![32, 2048]⟩
abbrev S16x49152 : Shape := ⟨2, ![16, 49152]⟩
abbrev S512x1024 : Shape := ⟨2, ![512, 1024]⟩
abbrev S512x2048 : Shape := ⟨2, ![512, 2048]⟩
abbrev S1x2048x2048 : Shape := ⟨3, ![1, 2048, 2048]⟩
abbrev S16x512 : Shape := ⟨2, ![16, 512]⟩
abbrev S512 : Shape := ⟨1, ![512]⟩
abbrev S512x1 : Shape := ⟨2, ![512, 1]⟩
abbrev S1x1024x2048 : Shape := ⟨3, ![1, 1024, 2048]⟩
abbrev S1024x2048 : Shape := ⟨2, ![1024, 2048]⟩
abbrev S32x512 : Shape := ⟨2, ![32, 512]⟩
abbrev S1x512 : Shape := ⟨2, ![1, 512]⟩

abbrev nBuf : Space → Nat
  | .hbm => 29
  | .vmem => 17
  | .smem => 0
  | _ => 0

abbrev bufTy : (tb : Table) → Fin (tcTables nBuf tb) → BufTy
  | .hbm, ⟨0, _⟩ => ⟨S49152x1024, .f32⟩
  | .hbm, ⟨1, _⟩ => ⟨S49152x1024, .f32⟩
  | .hbm, ⟨2, _⟩ => ⟨S49152x2048, .f32⟩
  | .hbm, ⟨3, _⟩ => ⟨S4x1024, .f32⟩
  | .hbm, ⟨4, _⟩ => ⟨S4x1024, .f32⟩
  | .hbm, ⟨5, _⟩ => ⟨S4x2048x2048, .f32⟩
  | .hbm, ⟨6, _⟩ => ⟨S4x2048, .f32⟩
  | .hbm, ⟨7, _⟩ => ⟨S4x2048x16, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S4x2048x2048, .bf16⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x2048x16, .f32⟩
  | .hbm, ⟨19, _⟩ => ⟨S2048x16, .f32⟩
  | .hbm, ⟨20, _⟩ => ⟨S16x2048, .f32⟩
  | .hbm, ⟨21, _⟩ => ⟨S16x2048, .bf16⟩
  | .hbm, ⟨22, _⟩ => ⟨S16x2048, .f32⟩
  | .hbm, ⟨23, _⟩ => ⟨S16x2048, .f32⟩
  | .hbm, ⟨24, _⟩ => ⟨S16x2048, .bf16⟩
  | .hbm, ⟨25, _⟩ => ⟨S32x2048, .bf16⟩
  | .hbm, ⟨26, _⟩ => ⟨S49152x2048, .f32⟩
  | .hbm, ⟨27, _⟩ => ⟨S49152x2048, .bf16⟩
  | .hbm, ⟨28, _⟩ => ⟨S16x49152, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1x1024, .f32⟩
  | .local _ .vmem, ⟨8, _⟩ => ⟨S1x2048x2048, .bf16⟩
  | .local _ .vmem, ⟨9, _⟩ => ⟨S1x2048, .f32⟩
  | .local _ .vmem, ⟨10, _⟩ => ⟨S32x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S16x512, .f32⟩
  | .local _ .vmem, ⟨16, _⟩ => ⟨S16x512, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceOutprojIdeal.lean ====
abbrev S49152x1024 : Shape := ⟨2, ![49152, 1024]⟩
abbrev S49152x2048 : Shape := ⟨2, ![49152, 2048]⟩
abbrev S4x1024 : Shape := ⟨2, ![4, 1024]⟩
abbrev S4x2048x2048 : Shape := ⟨3, ![4, 2048, 2048]⟩
abbrev S4x2048 : Shape := ⟨2, ![4, 2048]⟩
abbrev S4x2048x16 : Shape := ⟨3, ![4, 2048, 16]⟩
abbrev S1x1024 : Shape := ⟨2, ![1, 1024]⟩
abbrev S1024 : Shape := ⟨1, ![1024]⟩
abbrev S_ : Shape := ⟨0, ![]⟩
abbrev S49152 : Shape := ⟨1, ![49152]⟩
abbrev S49152x1 : Shape := ⟨2, ![49152, 1]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S1x2048x16 : Shape := ⟨3, ![1, 2048, 16]⟩
abbrev S2048x16 : Shape := ⟨2, ![2048, 16]⟩
abbrev S49152x16 : Shape := ⟨2, ![49152, 16]⟩
abbrev S16x49152 : Shape := ⟨2, ![16, 49152]⟩

abbrev nBuf : Space → Nat
  | .hbm => 86
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x1024, .f32⟩
  | .hbm, ⟨2, _⟩ => ⟨S49152x2048, .f32⟩
  | .hbm, ⟨3, _⟩ => ⟨S4x1024, .f32⟩
  | .hbm, ⟨4, _⟩ => ⟨S4x1024, .f32⟩
  | .hbm, ⟨5, _⟩ => ⟨S4x2048x2048, .f32⟩
  | .hbm, ⟨6, _⟩ => ⟨S4x2048, .f32⟩
  | .hbm, ⟨7, _⟩ => ⟨S4x2048x16, .f32⟩
  | .hbm, ⟨8, _⟩ => ⟨S1x1024, .f32⟩
  | .hbm, ⟨9, _⟩ => ⟨S1024, .f32⟩
  | .hbm, ⟨10, _⟩ => ⟨S49152x1024, .f32⟩
  | .hbm, ⟨11, _⟩ => ⟨S_, .f32⟩
  | .hbm, ⟨12, _⟩ => ⟨S49152, .f32⟩
  | .hbm, ⟨13, _⟩ => ⟨S49152x1, .f32⟩
  | .hbm, ⟨14, _⟩ => ⟨S_, .f32⟩
  | .hbm, ⟨15, _⟩ => ⟨S49152x1, .f32⟩
  | .hbm, ⟨16, _⟩ => ⟨S49152x1, .f32⟩
  | .hbm, ⟨17, _⟩ => ⟨S_, .f32⟩
  | .hbm, ⟨18, _⟩ => ⟨S49152x1, .f32⟩
  | .hbm, ⟨19, _⟩ => ⟨S49152x1, .f32⟩
  | .hbm, ⟨20, _⟩ => ⟨S49152x1, .f32⟩
  | .hbm, ⟨21, _⟩ => ⟨S49152x1024, .f32⟩
  | .hbm, ⟨22, _⟩ => ⟨S49152x1024, .f32⟩
  | .hbm, ⟨23, _⟩ => ⟨S1x1024, .f32⟩
  | .hbm, ⟨24, _⟩ => ⟨S49152x1024, .f32⟩
  | .hbm, ⟨25, _⟩ => ⟨S49152x1024, .f32⟩
  | .hbm, ⟨26, _⟩ => ⟨S1x1024, .f32⟩
  | .hbm, ⟨27, _⟩ => ⟨S1024, .f32⟩
  | .hbm, ⟨28, _⟩ => ⟨S49152x1024, .f32⟩
  | .hbm, ⟨29, _⟩ => ⟨S_, .f32⟩
  | .hbm, ⟨30, _⟩ => ⟨S49152, .f32⟩
  | .hbm, ⟨31, _⟩ => ⟨S49152x1, .f32⟩
  | .hbm, ⟨32, _⟩ => ⟨S_, .f32⟩
  | .hbm, ⟨33, _⟩ => ⟨S49152x1, .f32⟩
  | .hbm, ⟨34, _⟩ => ⟨S49152x1, .f32⟩
  | .hbm, ⟨35, _⟩ => ⟨S_, .f32⟩
  | .hbm, ⟨36, _⟩ => ⟨S49152x1, .f32⟩
  | .hbm, ⟨37, _⟩ => ⟨S49152x1, .f32⟩
  | .hbm, ⟨38, _⟩ => ⟨S49152x1, .f32⟩
  | .hbm, ⟨39, _⟩ => ⟨S49152x1024, .f32⟩
  | .hbm, ⟨40, _⟩ => ⟨S49152x1024, .f32⟩
  | .hbm, ⟨41, _⟩ => ⟨S1x1024, .f32⟩
  | .hbm, ⟨42, _⟩ => ⟨S49152x1024, .f32⟩
  | .hbm, ⟨43, _⟩ => ⟨S49152x1024, .f32⟩
  | .hbm, ⟨44, _⟩ => ⟨S49152x2048, .f32⟩
  | .hbm, ⟨45, _⟩ => ⟨S1x2048x2048, .f32⟩
  | .hbm, ⟨46, _⟩ => ⟨S2048x2048, .f32⟩
  | .hbm, ⟨47, _⟩ => ⟨S49152x2048, .f32⟩
  | .hbm, ⟨48, _⟩ => ⟨S49152x2048, .f32⟩
  | .hbm, ⟨49, _⟩ => ⟨S1x2048, .f32⟩
  | .hbm, ⟨50, _⟩ => ⟨S2048, .f32⟩
  | .hbm, ⟨51, _⟩ => ⟨S49152x2048, .f32⟩
  | .hbm, ⟨52, _⟩ => ⟨S_, .f32⟩
  | .hbm, ⟨53, _⟩ => ⟨S49152, .f32⟩
  | .hbm, ⟨54, _⟩ => ⟨S49152x1, .f32⟩
  | .hbm, ⟨55, _⟩ => ⟨S_, .f32⟩
  | .hbm, ⟨56, _⟩ => ⟨S49152x1, .f32⟩
  | .hbm, ⟨57, _⟩ => ⟨S49152x1, .f32⟩
  | .hbm, ⟨58, _⟩ => ⟨S_, .f32⟩
  | .hbm, ⟨59, _⟩ => ⟨S49152x1, .f32⟩
  | .hbm, ⟨60, _⟩ => ⟨S49152x1, .f32⟩
  | .hbm, ⟨61, _⟩ => ⟨S49152x1, .f32⟩
  | .hbm, ⟨62, _⟩ => ⟨S49152x2048, .f32⟩
  | .hbm, ⟨63, _⟩ => ⟨S49152x2048, .f32⟩
  | .hbm, ⟨64, _⟩ => ⟨S1x2048, .f32⟩
  | .hbm, ⟨65, _⟩ => ⟨S49152x2048, .f32⟩
  | .hbm, ⟨66, _⟩ => ⟨S49152x2048, .f32⟩
  | .hbm, ⟨67, _⟩ => ⟨S1x2048x16, .f32⟩
  | .hbm, ⟨68, _⟩ => ⟨S2048x16, .f32⟩
  | .hbm, ⟨69, _⟩ => ⟨S49152x16, .f32⟩
  | .hbm, ⟨70, _⟩ => ⟨S_, .f32⟩
  | .hbm, ⟨71, _⟩ => ⟨S49152, .f32⟩
  | .hbm, ⟨72, _⟩ => ⟨S_, .f32⟩
  | .hbm, ⟨73, _⟩ => ⟨S49152, .f32⟩
  | .hbm, ⟨74, _⟩ => ⟨S49152, .f32⟩
  | .hbm, ⟨75, _⟩ => ⟨S49152x1, .f32⟩
  | .hbm, ⟨76, _⟩ => ⟨S49152x16, .f32⟩
  | .hbm, ⟨77, _⟩ => ⟨S49152x16, .f32⟩
  | .hbm, ⟨78, _⟩ => ⟨S49152x16, .f32⟩
  | .hbm, ⟨79, _⟩ => ⟨S_, .f32⟩
  | .hbm, ⟨80, _⟩ => ⟨S49152, .f32⟩
  | .hbm, ⟨81, _⟩ => ⟨S49152x1, .f32⟩
  | .hbm, ⟨82, _⟩ => ⟨S49152x16, .f32⟩
  | .hbm, ⟨83, _⟩ => ⟨S49152x16, .f32⟩
  | .hbm, ⟨84, _⟩ => ⟨S49152x2048, .bf16⟩
  | .hbm, ⟨85, _⟩ => ⟨S16x49152, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Experts.lean ====
abbrev S98304x2176 : Shape := ⟨2, ![98304, 2176]⟩
abbrev S4x16x2048x1024 : Shape := ⟨4, ![4, 16, 2048, 1024]⟩
abbrev S4x16x1024x2048 : Shape := ⟨4, ![4, 16, 1024, 2048]⟩
abbrev S98304x2048 : Shape := ⟨2, ![98304, 2048]⟩
abbrev S512x2176 : Shape := ⟨2, ![512, 2176]⟩
abbrev S1x1x2048x1024 : Shape := ⟨4, ![1, 1, 2048, 1024]⟩
abbrev S1x1x1024x2048 : Shape := ⟨4, ![1, 1, 1024, 2048]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 8
  | .vmem => 10
  | .smem => 0
  | _ => 0

abbrev bufTy : (tb : Table) → Fin (tcTables nBuf tb) → BufTy
  | .hbm, ⟨0, _⟩ => ⟨S98304x2176, .bf16⟩
  | .hbm, ⟨1, _⟩ => ⟨S4x16x2048x1024, .f32⟩
  | .hbm, ⟨2, _⟩ => ⟨S4x16x2048x1024, .f32⟩
  | .hbm, ⟨3, _⟩ => ⟨S4x16x1024x2048, .f32⟩
  | .hbm, ⟨4, _⟩ => ⟨S4x16x2048x1024, .bf16⟩
  | .hbm, ⟨5, _⟩ => ⟨S4x16x2048x1024, .bf16⟩
  | .hbm, ⟨6, _⟩ => ⟨S4x16x1024x2048, .bf16⟩
  | .hbm, ⟨7, _⟩ => ⟨S98304x2048, .bf16⟩
  | .local _ .vmem, ⟨0, _⟩ => ⟨S512x2176, .bf16⟩
  | .local _ .vmem, ⟨1, _⟩ => ⟨S512x2176, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1x1x2048x1024, .bf16⟩
  | .local _ .vmem, ⟨5, _⟩ => ⟨S1x1x2048x1024, .bf16⟩
  | .local _ .vmem, ⟨6, _⟩ => ⟨S1x1x1024x2048, .bf16⟩
  | .local _ .vmem, ⟨7, _⟩ => ⟨S1x1x1024x2048, .bf16⟩
  | .local _ .vmem, ⟨8, _⟩ => ⟨S512x2048, .bf16⟩
  | .local _ .vmem, ⟨9, _⟩ => ⟨S512x2048, .bf16⟩
  | _, _ => ⟨S98304x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceExpertsIdeal.lean ====
abbrev S98304x2176 : Shape := ⟨2, ![98304, 2176]⟩
abbrev S4x16x2048x1024 : Shape := ⟨4, ![4, 16, 2048, 1024]⟩
abbrev S4x16x1024x2048 : Shape := ⟨4, ![4, 16, 1024, 2048]⟩
abbrev S1x16x2048x1024 : Shape := ⟨4, ![1, 16, 2048, 1024]⟩
abbrev S16x2048x1024 : Shape := ⟨3, ![16, 2048, 1024]⟩
abbrev S1x16x1024x2048 : Shape := ⟨4, ![1, 16, 1024, 2048]⟩
abbrev S16x1024x2048 : Shape := ⟨3, ![16, 1024, 2048]⟩
abbrev S16x6144x2176 : Shape := ⟨3, ![16, 6144, 2176]⟩
abbrev S16x6144x2048 : Shape := ⟨3, ![16, 6144, 2048]⟩
abbrev S16x6144x128 : Shape := ⟨3, ![16, 6144, 128]⟩
abbrev S16x6144x8x16 : Shape := ⟨4, ![16, 6144, 8, 16]⟩
abbrev S_ : Shape := ⟨0, ![]⟩
abbrev S16x6144x16 : Shape := ⟨3, ![16, 6144, 16]⟩
abbrev S16x16 : Shape := ⟨2, ![16, 16]⟩
abbrev S6144x16 : Shape := ⟨2, ![6144, 16]⟩
abbrev S16x6144 : Shape := ⟨2, ![16, 6144]⟩
abbrev S16x6144x1024 : Shape := ⟨3, ![16, 6144, 1024]⟩
abbrev S16x6144x1 : Shape := ⟨3, ![16, 6144, 1]⟩
abbrev S98304x2048 : Shape := ⟨2, ![98304, 2048]⟩

abbrev nBuf : Space → Nat
  | .hbm => 45
  | .vmem => 0
  | .smem => 0
  | _ => 0

abbrev bufTy : (tb : Table) → Fin (tcTables nBuf tb) → BufTy
  | .hbm, ⟨0, _⟩ => ⟨S98304x2176, .bf16⟩
  | .hbm, ⟨1, _⟩ => ⟨S4x16x2048x1024, .f32⟩
  | .hbm, ⟨2, _⟩ => ⟨S4x16x2048x1024, .f32⟩
  | .hbm, ⟨3, _⟩ => ⟨S4x16x1024x2048, .f32⟩
  | .hbm, ⟨4, _⟩ => ⟨S1x16x2048x1024, .f32⟩
  | .hbm, ⟨5, _⟩ => ⟨S16x2048x1024, .f32⟩
  | .hbm, ⟨6, _⟩ => ⟨S1x16x2048x1024, .f32⟩
  | .hbm, ⟨7, _⟩ => ⟨S16x2048x1024, .f32⟩
  | .hbm, ⟨8, _⟩ => ⟨S1x16x1024x2048, .f32⟩
  | .hbm, ⟨9, _⟩ => ⟨S16x1024x2048, .f32⟩
  | .hbm, ⟨10, _⟩ => ⟨S98304x2176, .f32⟩
  | .hbm, ⟨11, _⟩ => ⟨S16x6144x2176, .f32⟩
  | .hbm, ⟨12, _⟩ => ⟨S16x6144x2048, .f32⟩
  | .hbm, ⟨13, _⟩ => ⟨S16x6144x128, .f32⟩
  | .hbm, ⟨14, _⟩ => ⟨S16x6144x8x16, .f32⟩
  | .hbm, ⟨15, _⟩ => ⟨S_, .f32⟩
  | .hbm, ⟨16, _⟩ => ⟨S16x6144x16, .f32⟩
  | .hbm, ⟨17, _⟩ => ⟨S16x16, .i32⟩
  | .hbm, ⟨18, _⟩ => ⟨S16x16, .i32⟩
  | .hbm, ⟨19, _⟩ => ⟨S16x16, .i1⟩
  | .hbm, ⟨20, _⟩ => ⟨S16x6144x16, .i1⟩
  | .hbm, ⟨21, _⟩ => ⟨S_, .f32⟩
  | .hbm, ⟨22, _⟩ => ⟨S16x6144x16, .f32⟩
  | .hbm, ⟨23, _⟩ => ⟨S16x6144x16, .f32⟩
  | .hbm, ⟨24, _⟩ => ⟨S_, .f32⟩
  | .hbm, ⟨25, _⟩ => ⟨S6144x16, .f32⟩
  | .hbm, ⟨26, _⟩ => ⟨S16x6144, .f32⟩
  | .hbm, ⟨27, _⟩ => ⟨S16x6144x1024, .f32⟩
  | .hbm, ⟨28, _⟩ => ⟨S16x6144x1024, .f32⟩
  | .hbm, ⟨29, _⟩ => ⟨S16x6144x1024, .f32⟩
  | .hbm, ⟨30, _⟩ => ⟨S_, .f32⟩
  | .hbm, ⟨31, _⟩ => ⟨S16x6144x1024, .f32⟩
  | .hbm, ⟨32, _⟩ => ⟨S16x6144x1024, .f32⟩
  | .hbm, ⟨33, _⟩ => ⟨S_, .f32⟩
  | .hbm, ⟨34, _⟩ => ⟨S16x6144x1024, .f32⟩
  | .hbm, ⟨35, _⟩ => ⟨S16x6144x1024, .f32⟩
  | .hbm, ⟨36, _⟩ => ⟨S16x6144x1024, .f32⟩
  | .hbm, ⟨37, _⟩ => ⟨S16x6144x1024, .f32⟩
  | .hbm, ⟨38, _⟩ => ⟨S16x6144x1024, .f32⟩
  | .hbm, ⟨39, _⟩ => ⟨S16x6144x2048, .f32⟩
  | .hbm, ⟨40, _⟩ => ⟨S16x6144x1, .f32⟩
  | .hbm, ⟨41, _⟩ => ⟨S16x6144x2048, .f32⟩
  | .hbm, ⟨42, _⟩ => ⟨S16x6144x2048, .f32⟩
  | .hbm, ⟨43, _⟩ => ⟨S98304x2048, .f32⟩
  | .hbm, ⟨44, _⟩ => ⟨S98304x2048, .bf16⟩
  | _, _ => ⟨S98304x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Proof.Reals.lean ====
/- Extended reals that are real numbers, and what the operations make of them. -/
module

public import Idealize.ShloMosaic.Lib.Pointwise

@[expose] public section

noncomputable section

namespace Cert.Proof

open Idealize.ShloMosaic

/-- `x` is a real number. -/
def IsReal (x : EReal) : Prop := ∃ r : ℝ, x = (r : EReal)

namespace IsReal

variable {ι : Type} {x y : EReal}

theorem ne_top (h : IsReal x) : x ≠ ⊤ := by obtain ⟨r, rfl⟩ := h; exact EReal.coe_ne_top r

theorem ne_bot (h : IsReal x) : x ≠ ⊥ := by obtain ⟨r, rfl⟩ := h; exact EReal.coe_ne_bot r

theorem of_ne (ht : x ≠ ⊤) (hb : x ≠ ⊥) : IsReal x := ⟨x.toReal, (EReal.coe_toReal ht hb).symm⟩

theorem zero : IsReal 0 := ⟨0, rfl⟩

theorem add (hx : IsReal x) (hy : IsReal y) : IsReal (x + y) := by
  obtain ⟨a, rfl⟩ := hx
  obtain ⟨b, rfl⟩ := hy
  exact ⟨a + b, rfl⟩

theorem mul (hx : IsReal x) (hy : IsReal y) : IsReal (x * y) := by
  obtain ⟨a, rfl⟩ := hx
  obtain ⟨b, rfl⟩ := hy
  exact ⟨a * b, rfl⟩

theorem sub_self (hx : IsReal x) : x - x = 0 := by
  obtain ⟨a, rfl⟩ := hx
  rw [← EReal.coe_sub, _root_.sub_self]
  rfl

theorem sum (s : Finset ι) {f : ι → EReal} (h : ∀ i, IsReal (f i)) : IsReal (∑ i ∈ s, f i) := by
  classical
  induction s using Finset.induction_on with
  | empty => exact zero
  | insert i s hi ih => rw [Finset.sum_insert hi]; exact (h i).add ih

/-- What a precondition's comparison with infinity says. -/
theorem of_cmp (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hl : max x (-x) < ⊤ := by
    by_contra hn
    simp [Ideal.cmp, hn] at h
  refine of_ne (fun e => ?_) (fun e => ?_) <;> subst e <;> simp at hl

end IsReal

theorem ofBits_eps : ∃ e : ℝ, 0 < e ∧ Ideal.ofBits .f32 0x358637BD#32 = (e : EReal) := by
  refine ⟨_, ?_, by simp [Ideal.ofBits, Ideal.ieee]; rfl⟩
  norm_num

theorem ofBits_2048 : Ideal.ofBits .f32 0x45000000#32 = ((2048 : ℝ) : EReal) := by
  simp [Ideal.ofBits, Ideal.ieee, -EReal.coe_mul]
  norm_num

theorem ofBits_neg_inf : Ideal.ofBits .f32 0xFF800000#32 = ⊥ := by
  simp [Ideal.ofBits, Ideal.ieee]

/-- An entry over the root of the mean square of its row is real, whatever the row: an infinite entry makes the mean infinite and
    its root's reciprocal zero. -/
theorem isReal_rms {ι : Type} [Fintype ι] (f : ι → EReal) (i : ι) :
    IsReal (f i * Ideal.rsqrt (Ideal.div (∑ k, f k * f k) (Ideal.ofBits .f32 0x45000000#32) + Ideal.ofBits .f32 0x358637BD#32)) := by
  obtain ⟨e, he, hE⟩ := ofBits_eps
  rw [ofBits_2048, hE]
  have hsq : ∀ k, 0 ≤ f k * f k := fun k => by
    induction f k with
    | bot => simp
    | top => simp
    | coe r => exact_mod_cast mul_self_nonneg r
  have hs : 0 ≤ ∑ k, f k * f k := Finset.sum_nonneg fun k _ => hsq k
  by_cases hinf : f i = ⊤ ∨ f i = ⊥
  · have ht : ∑ k, f k * f k = ⊤ := by
      refine top_le_iff.mp (le_trans (le_of_eq ?_) (Finset.single_le_sum (fun k _ => hsq k) (Finset.mem_univ i)))
      rcases hinf with h | h <;> simp [h]
    have hz : Ideal.rsqrt (Ideal.div ⊤ ((2048 : ℝ) : EReal) + e) = 0 := by
      have : Ideal.div ⊤ ((2048 : ℝ) : EReal) = ⊤ := by
        rw [Ideal.div, if_neg (by norm_num), ← EReal.coe_inv, EReal.top_mul_coe_of_pos (by norm_num)]
      rw [this, EReal.top_add_coe]
      rfl
    rw [ht, hz, mul_zero]
    exact .zero
  · refine (IsReal.of_ne (fun h => hinf (.inl h)) fun h => hinf (.inr h)).mul ?_
    generalize ∑ k, f k * f k = s at hs ⊢
    rw [Ideal.div, if_neg (by norm_num), ← EReal.coe_inv]
    induction s with
    | bot => simp at hs
    | top =>
      rw [EReal.top_mul_coe_of_pos (by norm_num), EReal.top_add_coe]
      exact .zero
    | coe r =>
      have hr : (0 : ℝ) ≤ r := by exact_mod_cast hs
      have hp : 0 < r * 2048⁻¹ + e := by positivity
      rw [← EReal.coe_mul, ← EReal.coe_add, Ideal.rsqrt_coe, if_neg (not_lt.mpr hp.le), if_neg hp.ne']
      exact ⟨_, rfl⟩

end Cert.Proof

end
-- ==== Proof.Table.lean ====
/- The table of the position buckets: the kernel's and the reference's are one, and every entry is a bucket's number. -/
module

public import proofs.«01_k».proof.KernelIdeal
public import proofs.«01_k».proof.ReferenceIdeal

@[expose] public section

set_option maxRecDepth 16384

noncomputable section

namespace Cert.Proof.Table

open Idealize.ShloMosaic

theorem tables : KernelIdeal.lit0t = ReferenceIdeal.lit0t := rfl

/-- The entries of the 16 table lines from line `16 * k` on are buckets. -/
def Lines (k : ℕ) : Prop := ∀ (q : Fin 16) (j : Fin 128), (ReferenceIdeal.lit0t ((k * 16 + q.val) * 128 + j.val)).toNat < 32

theorem lines0 : Lines 0 := by unfold Lines; decide +kernel
theorem lines1 : Lines 1 := by unfold Lines; decide +kernel
theorem lines2 : Lines 2 := by unfold Lines; decide +kernel
theorem lines3 : Lines 3 := by unfold Lines; decide +kernel
theorem lines4 : Lines 4 := by unfold Lines; decide +kernel
theorem lines5 : Lines 5 := by unfold Lines; decide +kernel
theorem lines6 : Lines 6 := by unfold Lines; decide +kernel
theorem lines7 : Lines 7 := by unfold Lines; decide +kernel
theorem lines8 : Lines 8 := by unfold Lines; decide +kernel
theorem lines9 : Lines 9 := by unfold Lines; decide +kernel
theorem lines10 : Lines 10 := by unfold Lines; decide +kernel
theorem lines11 : Lines 11 := by unfold Lines; decide +kernel
theorem lines12 : Lines 12 := by unfold Lines; decide +kernel
theorem lines13 : Lines 13 := by unfold Lines; decide +kernel
theorem lines14 : Lines 14 := by unfold Lines; decide +kernel
theorem lines15 : Lines 15 := by unfold Lines; decide +kernel
theorem lines16 : Lines 16 := by unfold Lines; decide +kernel
theorem lines17 : Lines 17 := by unfold Lines; decide +kernel
theorem lines18 : Lines 18 := by unfold Lines; decide +kernel
theorem lines19 : Lines 19 := by unfold Lines; decide +kernel
theorem lines20 : Lines 20 := by unfold Lines; decide +kernel
theorem lines21 : Lines 21 := by unfold Lines; decide +kernel
theorem lines22 : Lines 22 := by unfold Lines; decide +kernel
theorem lines23 : Lines 23 := by unfold Lines; decide +kernel

theorem entries : ∀ k : ℕ, k < 24 → Lines k
  | 0, _ => lines0
  | 1, _ => lines1
  | 2, _ => lines2
  | 3, _ => lines3
  | 4, _ => lines4
  | 5, _ => lines5
  | 6, _ => lines6
  | 7, _ => lines7
  | 8, _ => lines8
  | 9, _ => lines9
  | 10, _ => lines10
  | 11, _ => lines11
  | 12, _ => lines12
  | 13, _ => lines13
  | 14, _ => lines14
  | 15, _ => lines15
  | 16, _ => lines16
  | 17, _ => lines17
  | 18, _ => lines18
  | 19, _ => lines19
  | 20, _ => lines20
  | 21, _ => lines21
  | 22, _ => lines22
  | 23, _ => lines23
  | k + 24, h => absurd h (by omega)

/-- The bucket of every offset is one of the 32. -/
theorem lt (i : Fin 49152) : (ReferenceIdeal.lit0 i).toNat < 32 := by
  have h := entries (i.val / 2048) (by omega) ⟨i.val / 128 % 16, by omega⟩ ⟨i.val % 128, by omega⟩
  have e : (i.val / 2048 * 16 + i.val / 128 % 16) * 128 + i.val % 128 = i.val := by omega
  rw [show ReferenceIdeal.lit0 i = ReferenceIdeal.lit0t i.val from rfl, ← e]
  exact h

theorem eq (i : Fin 49152) : KernelIdeal.lit0 i = ReferenceIdeal.lit0 i := congrFun tables i.val

end Cert.Proof.Table

end
-- ==== Proof.Blocks.lean ====
/- What the attention's kernel reads: its blocks of the queries, keys and values, its biases, its sinks. -/
module

public import proofs.«01_k».proof.Proof.Gen.KernelIdeal.Value
public import proofs.«01_k».proof.Proof.Gen.ReferenceIdeal
public import proofs.«01_k».proof.Proof.Reals
public import proofs.«01_k».proof.Proof.Table
public import Idealize.ShloMosaic.Lib.Pipeline.ValueKit
public import Idealize.ShloMosaic.Lib.Pointwise

@[expose] public section

set_option maxRecDepth 16384

noncomputable section

namespace Cert.Proof.Blocks

open Idealize.ShloMosaic Idealize.ShloMosaic.TcCoe Idealize.SL.Sem
open Cert.KernelIdeal Cert.KernelIdeal.Gen

variable (m : (ℓ : Loc nD τ sig) → Buf (Elt Ideal) ℓ)

theorem idx (t : Fin cfg0.N) :
    win0_0.index t = ![(grid0.coords t 0).val, (grid0.coords t 2).val, (grid0.coords t 1).val]
    ∧ win0_1.index t = ![(grid0.coords t 0).val, 16 * (grid0.coords t 2).val - 1, 8 + (grid0.coords t 1).val]
    ∧ win0_2.index t = ![(grid0.coords t 0).val, (grid0.coords t 2).val, 8 + (grid0.coords t 1).val]
    ∧ win0_3.index t = ![(grid0.coords t 0).val, min (16 * (grid0.coords t 2).val + 16) 63, 8 + (grid0.coords t 1).val]
    ∧ win0_4.index t = ![(grid0.coords t 0).val, 16 * (grid0.coords t 2).val - 1, 10 + (grid0.coords t 1).val]
    ∧ win0_5.index t = ![(grid0.coords t 0).val, (grid0.coords t 2).val, 10 + (grid0.coords t 1).val]
    ∧ win0_6.index t = ![(grid0.coords t 0).val, min (16 * (grid0.coords t 2).val + 16) 63, 10 + (grid0.coords t 1).val]
    ∧ win0_7.index t = ![(grid0.coords t 1).val, 0, 0] ∧ win0_8.index t = ![(grid0.coords t 1).val, 0, 0]
    ∧ win0_9.index t = ![(grid0.coords t 0).val, (grid0.coords t 2).val, (grid0.coords t 1).val] :=
  (by decide +kernel : ∀ t : Fin grid0.N,
    win0_0.index t = ![(grid0.coords t 0).val, (grid0.coords t 2).val, (grid0.coords t 1).val]
    ∧ win0_1.index t = ![(grid0.coords t 0).val, 16 * (grid0.coords t 2).val - 1, 8 + (grid0.coords t 1).val]
    ∧ win0_2.index t = ![(grid0.coords t 0).val, (grid0.coords t 2).val, 8 + (grid0.coords t 1).val]
    ∧ win0_3.index t = ![(grid0.coords t 0).val, min (16 * (grid0.coords t 2).val + 16) 63, 8 + (grid0.coords t 1).val]
    ∧ win0_4.index t = ![(grid0.coords t 0).val, 16 * (grid0.coords t 2).val - 1, 10 + (grid0.coords t 1).val]
    ∧ win0_5.index t = ![(grid0.coords t 0).val, (grid0.coords t 2).val, 10 + (grid0.coords t 1).val]
    ∧ win0_6.index t = ![(grid0.coords t 0).val, min (16 * (grid0.coords t 2).val + 16) 63, 10 + (grid0.coords t 1).val]
    ∧ win0_7.index t = ![(grid0.coords t 1).val, 0, 0] ∧ win0_8.index t = ![(grid0.coords t 1).val, 0, 0]
    ∧ win0_9.index t = ![(grid0.coords t 0).val, (grid0.coords t 2).val, (grid0.coords t 1).val]) t

/-- The rows, sequence by sequence. -/
theorem rows (c : Dev nD) (b : Fin 6) (R : Fin 8192) (C : Fin 1536) :
    V m c main_v10 (ix3 b R C) = m ((c : Thread nD τ).loc main_arg0) (ix2 ⟨b.val * 8192 + R.val, by omega⟩ C) := by
  unfold V
  entry_read
  pointwise

/-- The table of the sinks. -/
theorem sinks (c : Dev nD) (h : Fin 8) (d : Fin 128) :
    V m c main_v9 (ix3 h 0 d) = m ((c : Thread nD τ).loc main_arg2) (ix1 h) := by
  unfold V
  entry_read
  pointwise

/-- Two small words are equal where their numbers are. -/
theorem bits : ∀ l' l : Fin 32, IntOp.cmpi .eq (BitVec.ofNat 32 l'.val) (BitVec.ofNat 32 l.val) = BitVec.ofBool (decide (l = l')) := by
  decide +kernel

/-- The bias of a place is the table's row the place's number names. -/
theorem bias (c : Dev nD) (h : Fin 8) (r : Fin 128) (j : Fin 384) (l : Fin 32)
    (hl : (ReferenceIdeal.lit0 (ReferenceIdeal.S128x384.rowMajor (ix2 r j))).toNat = l.val) :
    V m c main_v7 (ix3 h r j) = m ((c : Thread nD τ).loc main_arg1) (ix2 l h) := by
  unfold V
  entry_read
  pointwise
  have hb : lit0 (S128x384.rowMajor (ix2 r j)) = BitVec.ofNat 32 l.val :=
    (Table.eq _).trans (BitVec.eq_of_toNat_eq (hl.trans (by rw [BitVec.toNat_ofNat, Nat.mod_eq_of_lt (by omega)])))
  have u0 : FloatOps.uitofp (F := Ideal) FTy.f32 (BitVec.ofBool false) = (0 : EReal) := by
    show (((BitVec.ofBool false).toNat : ℝ) : EReal) = 0
    simp
  have u1 : FloatOps.uitofp (F := Ideal) FTy.f32 (BitVec.ofBool true) = (1 : EReal) := by
    show (((BitVec.ofBool true).toNat : ℝ) : EReal) = 1
    simp
  rw [hb]
  simp only [bits]
  refine (Finset.sum_eq_single (M := EReal) l (fun x _ hx => ?_) fun h => absurd (Finset.mem_univ l) h).trans ?_
  · rw [decide_eq_false hx.symm, u0]
    exact mul_zero (M₀ := EReal) _
  · rw [decide_eq_true rfl, u1]
    exact mul_one (M := EReal) _

/-- The queries of a block. -/
theorem q_read (c : Dev nD) (t : Fin cfg0.N) (R : Fin 2048) (C : Fin 512) : iblk m c 0 t (ix3 0 R C)
    = m ((c : Thread nD τ).loc main_arg0) (ix2 ⟨(grid0.coords t 0).val * 8192 + ((grid0.coords t 2).val * 2048 + R.val), by
        have : (grid0.coords t 0).val < 6 := (grid0.coords t 0).isLt
        have : (grid0.coords t 2).val < 4 := (grid0.coords t 2).isLt
        omega⟩ ⟨(grid0.coords t 1).val * 512 + C.val, by
        have : (grid0.coords t 1).val < 2 := (grid0.coords t 1).isLt
        omega⟩) := by
  obtain ⟨e0, e1, e2, e3, e4, e5, e6, e7, e8, e9⟩ := idx t
  have h0 : (grid0.coords t 0).val < 6 := (grid0.coords t 0).isLt
  have h1 : (grid0.coords t 1).val < 2 := (grid0.coords t 1).isLt
  have h2 : (grid0.coords t 2).val < 4 := (grid0.coords t 2).isLt
  have hx : ((cfg0.win 0).blk t).view.emb (ix3 0 R C) = ix3 ⟨(grid0.coords t 0).val, h0⟩
      ⟨(grid0.coords t 2).val * 2048 + R.val, by omega⟩ ⟨(grid0.coords t 1).val * 512 + C.val, by omega⟩ := by
    blk_ext [e0]
  exact (congrArg (V m c main_v10) hx).trans (rows m c _ _ _)

/-- The three blocks of keys side by side. -/
theorem key_rows (a : Vec Ideal S1x128x128 .bf16) (b : Vec Ideal S1x2048x128 .bf16) (d : Vec Ideal S1x128x128 .bf16) (R : Fin 2304)
    (e : Fin 128) : k0_pay3 a b d (ix2 R e) = if h : R.val < 128 then a (ix3 0 ⟨R.val, h⟩ e)
      else if h' : R.val - 128 < 2048 then b (ix3 0 ⟨R.val - 128, h'⟩ e) else d (ix3 0 ⟨R.val - 128 - 2048, by omega⟩ e) := by
  pointwise [k0_pay3]

/-- The keys of a block, with the keys before and after. -/
theorem key_read (c : Dev nD) (t : Fin cfg0.N) (R : Fin 2304) (e : Fin 128) (p : Fin 8192)
    (hp : p.val + 128 = (grid0.coords t 2).val * 2048 + R.val) :
    k0_pay3 (iblk m c 1 t) (iblk m c 2 t) (iblk m c 3 t) (ix2 R e)
    = m ((c : Thread nD τ).loc main_arg0) (ix2 ⟨(grid0.coords t 0).val * 8192 + p.val, by
        have : (grid0.coords t 0).val < 6 := (grid0.coords t 0).isLt
        omega⟩ ⟨1024 + ((grid0.coords t 1).val * 128 + e.val), by
        have : (grid0.coords t 1).val < 2 := (grid0.coords t 1).isLt
        omega⟩) := by
  obtain ⟨e0, e1, e2, e3, e4, e5, e6, e7, e8, e9⟩ := idx t
  have h0 : (grid0.coords t 0).val < 6 := (grid0.coords t 0).isLt
  have h1 : (grid0.coords t 1).val < 2 := (grid0.coords t 1).isLt
  have h2 : (grid0.coords t 2).val < 4 := (grid0.coords t 2).isLt
  have hrow := rows m c ⟨(grid0.coords t 0).val, h0⟩ p ⟨1024 + ((grid0.coords t 1).val * 128 + e.val), by omega⟩
  have ha : ∀ hR : R.val < 128, iblk m c 1 t (ix3 0 ⟨R.val, hR⟩ e) = V m c main_v10 (ix3 ⟨(grid0.coords t 0).val, h0⟩ p ⟨1024 + ((grid0.coords t 1).val * 128 + e.val), by omega⟩) := fun hR => by
    refine congrArg (V m c main_v10) (?_ : ((cfg0.win 1).blk t).view.emb (ix3 0 ⟨R.val, hR⟩ e) = _)
    blk_ext [e1]
  have hb : ∀ (hR : ¬R.val < 128) (hR' : R.val - 128 < 2048), iblk m c 2 t (ix3 0 ⟨R.val - 128, hR'⟩ e) = V m c main_v10 (ix3 ⟨(grid0.coords t 0).val, h0⟩ p ⟨1024 + ((grid0.coords t 1).val * 128 + e.val), by omega⟩) := fun hR hR' => by
    refine congrArg (V m c main_v10) (?_ : ((cfg0.win 2).blk t).view.emb (ix3 0 ⟨R.val - 128, hR'⟩ e) = _)
    blk_ext [e2]
  have hc : ∀ (hR : ¬R.val < 128) (hR' : ¬R.val - 128 < 2048), iblk m c 3 t (ix3 0 ⟨R.val - 128 - 2048, by omega⟩ e) = V m c main_v10 (ix3 ⟨(grid0.coords t 0).val, h0⟩ p ⟨1024 + ((grid0.coords t 1).val * 128 + e.val), by omega⟩) := fun hR hR' => by
    refine congrArg (V m c main_v10) (?_ : ((cfg0.win 3).blk t).view.emb (ix3 0 ⟨R.val - 128 - 2048, by omega⟩ e) = _)
    blk_ext [e3]
  refine Eq.trans ?_ hrow
  rw [key_rows]
  by_cases hR : R.val < 128
  · rw [dif_pos hR]
    exact ha hR
  · rw [dif_neg hR]
    by_cases hR' : R.val - 128 < 2048
    · rw [dif_pos hR']
      exact hb hR hR'
    · rw [dif_neg hR']
      exact hc hR hR'

/-- The three blocks of values side by side. -/
theorem value_rows (a : Vec Ideal S1x128x128 .bf16) (b : Vec Ideal S1x2048x128 .bf16) (d : Vec Ideal S1x128x128 .bf16) (R : Fin 2304)
    (e : Fin 128) : k0_pay4 a b d (ix2 R e) = if h : R.val < 128 then a (ix3 0 ⟨R.val, h⟩ e)
      else if h' : R.val - 128 < 2048 then b (ix3 0 ⟨R.val - 128, h'⟩ e) else d (ix3 0 ⟨R.val - 128 - 2048, by omega⟩ e) := by
  pointwise [k0_pay4]

/-- The values of a block, with the values before and after. -/
theorem value_read (c : Dev nD) (t : Fin cfg0.N) (R : Fin 2304) (e : Fin 128) (p : Fin 8192)
    (hp : p.val + 128 = (grid0.coords t 2).val * 2048 + R.val) :
    k0_pay4 (iblk m c 4 t) (iblk m c 5 t) (iblk m c 6 t) (ix2 R e)
    = m ((c : Thread nD τ).loc main_arg0) (ix2 ⟨(grid0.coords t 0).val * 8192 + p.val, by
        have : (grid0.coords t 0).val < 6 := (grid0.coords t 0).isLt
        omega⟩ ⟨1280 + ((grid0.coords t 1).val * 128 + e.val), by
        have : (grid0.coords t 1).val < 2 := (grid0.coords t 1).isLt
        omega⟩) := by
  obtain ⟨e0, e1, e2, e3, e4, e5, e6, e7, e8, e9⟩ := idx t
  have h0 : (grid0.coords t 0).val < 6 := (grid0.coords t 0).isLt
  have h1 : (grid0.coords t 1).val < 2 := (grid0.coords t 1).isLt
  have h2 : (grid0.coords t 2).val < 4 := (grid0.coords t 2).isLt
  have hrow := rows m c ⟨(grid0.coords t 0).val, h0⟩ p ⟨1280 + ((grid0.coords t 1).val * 128 + e.val), by omega⟩
  have ha : ∀ hR : R.val < 128, iblk m c 4 t (ix3 0 ⟨R.val, hR⟩ e) = V m c main_v10 (ix3 ⟨(grid0.coords t 0).val, h0⟩ p ⟨1280 + ((grid0.coords t 1).val * 128 + e.val), by omega⟩) := fun hR => by
    refine congrArg (V m c main_v10) (?_ : ((cfg0.win 4).blk t).view.emb (ix3 0 ⟨R.val, hR⟩ e) = _)
    blk_ext [e4]
  have hb : ∀ (hR : ¬R.val < 128) (hR' : R.val - 128 < 2048), iblk m c 5 t (ix3 0 ⟨R.val - 128, hR'⟩ e) = V m c main_v10 (ix3 ⟨(grid0.coords t 0).val, h0⟩ p ⟨1280 + ((grid0.coords t 1).val * 128 + e.val), by omega⟩) := fun hR hR' => by
    refine congrArg (V m c main_v10) (?_ : ((cfg0.win 5).blk t).view.emb (ix3 0 ⟨R.val - 128, hR'⟩ e) = _)
    blk_ext [e5]
  have hc : ∀ (hR : ¬R.val < 128) (hR' : ¬R.val - 128 < 2048), iblk m c 6 t (ix3 0 ⟨R.val - 128 - 2048, by omega⟩ e) = V m c main_v10 (ix3 ⟨(grid0.coords t 0).val, h0⟩ p ⟨1280 + ((grid0.coords t 1).val * 128 + e.val), by omega⟩) := fun hR hR' => by
    refine congrArg (V m c main_v10) (?_ : ((cfg0.win 6).blk t).view.emb (ix3 0 ⟨R.val - 128 - 2048, by omega⟩ e) = _)
    blk_ext [e6]
  refine Eq.trans ?_ hrow
  rw [value_rows]
  by_cases hR : R.val < 128
  · rw [dif_pos hR]
    exact ha hR
  · rw [dif_neg hR]
    by_cases hR' : R.val - 128 < 2048
    · rw [dif_pos hR']
      exact hb hR hR'
    · rw [dif_neg hR']
      exact hc hR hR'

/-- The biases of a block. -/
theorem bias_read (c : Dev nD) (t : Fin cfg0.N) (g : Fin 4) (r : Fin 128) (j : Fin 384) (l : Fin 32)
    (hl : (ReferenceIdeal.lit0 (ReferenceIdeal.S128x384.rowMajor (ix2 r j))).toNat = l.val) : iblk m c 7 t (ix3 g r j)
    = m ((c : Thread nD τ).loc main_arg1) (ix2 l ⟨(grid0.coords t 1).val * 4 + g.val, by
        have : (grid0.coords t 1).val < 2 := (grid0.coords t 1).isLt
        omega⟩) := by
  obtain ⟨e0, e1, e2, e3, e4, e5, e6, e7, e8, e9⟩ := idx t
  have h1 : (grid0.coords t 1).val < 2 := (grid0.coords t 1).isLt
  have hx : ((cfg0.win 7).blk t).view.emb (ix3 g r j) = ix3 ⟨(grid0.coords t 1).val * 4 + g.val, by omega⟩ r j := by
    blk_ext [e7]
  exact (congrArg (V m c main_v7) hx).trans (bias m c _ r j l hl)

/-- The sinks of a block. -/
theorem sink_read (c : Dev nD) (t : Fin cfg0.N) (g : Fin 4) (d : Fin 128) : iblk m c 8 t (ix3 g 0 d)
    = m ((c : Thread nD τ).loc main_arg2) (ix1 ⟨(grid0.coords t 1).val * 4 + g.val, by
        have : (grid0.coords t 1).val < 2 := (grid0.coords t 1).isLt
        omega⟩) := by
  obtain ⟨e0, e1, e2, e3, e4, e5, e6, e7, e8, e9⟩ := idx t
  have h1 : (grid0.coords t 1).val < 2 := (grid0.coords t 1).isLt
  have hx : ((cfg0.win 8).blk t).view.emb (ix3 g 0 d) = ix3 ⟨(grid0.coords t 1).val * 4 + g.val, by omega⟩ 0 d := by
    blk_ext [e8]
  exact (congrArg (V m c main_v9) hx).trans (sinks m c _ d)

end Cert.Proof.Blocks

end
-- ==== Proof.Softmax.lean ====
/- One row of the attention over the extended reals: the kernel's softmax, in base two with its denominator divided out at the end,
   is the reference's. -/
module

public import proofs.«01_k».proof.Proof.Reals

@[expose] public section

noncomputable section

namespace Cert.Proof

open Idealize.ShloMosaic

/-- The change of base, `1 / log 2`. -/
abbrev lg : ℝ := (Real.log 2)⁻¹

theorem lg_pos : 0 < lg := inv_pos.mpr (Real.log_pos (by norm_num))

/-- Powers of two of scaled arguments are exponentials. -/
theorem exp2_scaled (x : ℝ) : Ideal.exp2 ((x * lg : ℝ) : EReal) = Ideal.exp (x : EReal) := by
  have h2 : (0 : ℝ) < 2 := by norm_num
  have hl : Real.log 2 ≠ 0 := (Real.log_pos (by norm_num)).ne'
  simp only [Ideal.exp2_coe, Ideal.exp_coe]
  congr 1
  show (2 : ℝ) ^ (x * lg) = _
  rw [Real.rpow_def_of_pos h2]
  congr 1
  unfold lg
  field_simp

theorem bot_sub_real {m : EReal} (h : IsReal m) : (⊥ : EReal) - m = ⊥ := by
  obtain ⟨r, rfl⟩ := h
  rfl

theorem max_real {x y : EReal} (hx : x ≠ ⊤) (hy : IsReal y) : IsReal (max x y) := by
  refine IsReal.of_ne (fun e => ?_) (fun e => ?_)
  · rcases max_choice x y with h | h <;> rw [h] at e
    · exact hx e
    · exact hy.ne_top e
  · exact hy.ne_bot (le_bot_iff.mp (e ▸ le_max_right x y))

variable {ι : Type} [Fintype ι]

theorem fold_max_ne_top (s : Finset ι) {f : ι → EReal} (h : ∀ j, f j ≠ ⊤) : s.fold max ⊥ f ≠ ⊤ := by
  classical
  induction s using Finset.induction_on with
  | empty => simp
  | insert i s hi ih =>
    rw [Finset.fold_insert hi]
    intro e
    rcases max_choice (f i) (s.fold max ⊥ f) with h' | h' <;> rw [h'] at e
    · exact h i e
    · exact ih e

/-- Scaling by a positive real commutes with the maximum. -/
theorem max_mul_pos {c : ℝ} (hc : 0 < c) (x y : EReal) : max x y * (c : EReal) = max (x * c) (y * c) := by
  have hm : Monotone fun x : EReal => x * (c : EReal) := fun a b h => mul_le_mul_of_nonneg_right h (EReal.coe_nonneg.mpr hc.le)
  exact hm.map_max

theorem fold_max_mul {c : ℝ} (hc : 0 < c) (s : Finset ι) (f : ι → EReal) :
    s.fold max ⊥ (fun j => f j * (c : EReal)) = s.fold max ⊥ f * (c : EReal) := by
  classical
  induction s using Finset.induction_on with
  | empty => simp [EReal.bot_mul_coe_of_pos hc]
  | insert i s hi ih => rw [Finset.fold_insert hi, Finset.fold_insert hi, ih, max_mul_pos hc]

theorem sum_mul_real {c : ℝ} (hc : 0 ≤ c) (s : Finset ι) (f : ι → EReal) :
    (∑ j ∈ s, f j) * (c : EReal) = ∑ j ∈ s, f j * (c : EReal) := by
  classical
  induction s using Finset.induction_on with
  | empty => simp
  | insert i s hi ih =>
    rw [Finset.sum_insert hi, Finset.sum_insert hi, ← ih,
      EReal.right_distrib_of_nonneg_of_ne_top (EReal.coe_nonneg.mpr hc) (EReal.coe_ne_top c)]

theorem coe_sum (s : Finset ι) (f : ι → ℝ) : ((∑ j ∈ s, f j : ℝ) : EReal) = ∑ j ∈ s, (f j : EReal) := by
  classical
  induction s using Finset.induction_on with
  | empty => simp
  | insert i s hi ih => rw [Finset.sum_insert hi, Finset.sum_insert hi, ← ih, EReal.coe_add]

/-- A score: a real number, or the mask. -/
def IsScore (x : EReal) : Prop := x = ⊥ ∨ IsReal x

theorem IsScore.ne_top {x : EReal} (h : IsScore x) : x ≠ ⊤ := by
  rcases h with rfl | h
  · exact bot_ne_top
  · exact h.ne_top

/-- The exponential of a score below a real maximum, in either base, is a nonnegative real number. -/
theorem exp2_score {x m : EReal} (hx : IsScore x) (hm : IsReal m) :
    Ideal.exp2 (x * (lg : EReal) - m * (lg : EReal)) = Ideal.exp (x - m) ∧ ∃ r : ℝ, 0 ≤ r ∧ Ideal.exp (x - m) = (r : EReal) := by
  obtain ⟨b, rfl⟩ := hm
  rcases hx with rfl | ⟨a, rfl⟩
  · have h1 : (⊥ : EReal) - (b : EReal) = ⊥ := bot_sub_real ⟨b, rfl⟩
    have h2 : (⊥ : EReal) * (lg : EReal) - (b : EReal) * (lg : EReal) = ⊥ := by
      rw [EReal.bot_mul_coe_of_pos lg_pos, ← EReal.coe_mul]
      exact bot_sub_real ⟨_, rfl⟩
    rw [h1, h2]
    exact ⟨rfl, 0, le_rfl, rfl⟩
  · have h : (a : EReal) * (lg : EReal) - (b : EReal) * (lg : EReal) = (((a - b) * lg : ℝ) : EReal) := by
      rw [← EReal.coe_mul, ← EReal.coe_mul, ← EReal.coe_sub, sub_mul]
    rw [h, exp2_scaled, ← EReal.coe_sub]
    exact ⟨rfl, _, (Real.exp_pos _).le, rfl⟩

/-- A row of the reference: the scores `s` and the sink `c`, through the softmax, against one column `v` of the values. -/
def attnRow (s : ι → EReal) (c : EReal) (v : ι → EReal) : EReal :=
  ∑ j, v j * Ideal.div (Ideal.exp (s j - max (Finset.univ.fold max ⊥ s) c))
    ((∑ j, Ideal.exp (s j - max (Finset.univ.fold max ⊥ s) c)) + Ideal.exp (c - max (Finset.univ.fold max ⊥ s) c))

/-- One row: `s` are the scores, `c` the sink, `v` one column of the values (`v'` the kernel's, equal where the score is not the
    mask). -/
theorem softmax_row {s v v' : ι → EReal} {c : EReal} (hs : ∀ j, IsScore (s j)) (hc : IsReal c)
    (hv : ∀ j, s j ≠ ⊥ → v' j = v j) :
    Ideal.div
      (∑ j, Ideal.exp2 (s j * (lg : EReal) - max (Finset.univ.fold max ⊥ fun j => s j * (lg : EReal)) (c * (lg : EReal))) * v' j)
      ((∑ j, Ideal.exp2 (s j * (lg : EReal) - max (Finset.univ.fold max ⊥ fun j => s j * (lg : EReal)) (c * (lg : EReal))))
        + Ideal.exp2 (c * (lg : EReal) - max (Finset.univ.fold max ⊥ fun j => s j * (lg : EReal)) (c * (lg : EReal))))
    = attnRow s c v := by
  unfold attnRow
  have hm : IsReal (max (Finset.univ.fold max ⊥ s) c) := max_real (fold_max_ne_top _ fun j => (hs j).ne_top) hc
  rw [fold_max_mul lg_pos, ← max_mul_pos lg_pos]
  set m := max (Finset.univ.fold max ⊥ s) c with hmdef
  simp only [(exp2_score (.inr hc) hm).1, fun j => (exp2_score (hs j) hm).1]
  choose p hp0 hp using fun j => (exp2_score (hs j) hm).2
  obtain ⟨a, hca⟩ := hc
  obtain ⟨b, hb⟩ := hm
  have hz : Ideal.exp (c - m) = ((Real.exp (a - b) : ℝ) : EReal) := by
    rw [hca, hb, ← EReal.coe_sub]
    rfl
  have hD : (∑ j, Ideal.exp (s j - m)) + Ideal.exp (c - m) = ((∑ j, p j + Real.exp (a - b) : ℝ) : EReal) := by
    rw [hz, EReal.coe_add, coe_sum]
    simp only [hp]
  have hpos : 0 < ∑ j, p j + Real.exp (a - b) := add_pos_of_nonneg_of_pos (Finset.sum_nonneg fun j _ => hp0 j) (Real.exp_pos _)
  rw [hD]
  simp only [Ideal.div_coe hpos.ne']
  rw [sum_mul_real (by positivity)]
  refine Finset.sum_congr rfl fun j _ => ?_
  by_cases hj : s j = ⊥
  · have : Ideal.exp (s j - m) = 0 := by
      rw [hj, bot_sub_real ⟨b, hb⟩]
      rfl
    rw [this]
    simp
  · rw [hv j hj, mul_comm (v j), mul_assoc, mul_comm (v j), ← mul_assoc]

end Cert.Proof

end
-- ==== Proof.Unit.lean ====
/- One unit of the attention's kernel: 128 queries of one head against a window of 384 keys. The kernel's text writes it 64 times,
   with other rows and heads; here it is written once, and read element by element. -/
module

public import proofs.«01_k».proof.Proof.Gen.KernelIdeal.Skeleton
public import proofs.«01_k».proof.Proof.Softmax
public import Idealize.ShloMosaic.Lib.Pipeline.ValueKit
public import Idealize.ShloMosaic.Lib.Pointwise

@[expose] public section

set_option maxRecDepth 16384

noncomputable section

namespace Cert.Proof.Unit

open Idealize.ShloMosaic Idealize.SL.Sem
open Cert.KernelIdeal Cert.KernelIdeal.Gen

/-- Which keys of the window the queries see, in the sub-block whose window starts at `a * 2048 + b`. -/
def valid (a b : BitVec 32) : IVec S128x384 1 :=
  let kp := addi (broadcast S128x384 (Scalar.addi (Scalar.muli a 2048#32) b)) (iota .tc S128x384 32 [1] iota_S128x384_d1_w32)
  andi (andi (k0_pay5) (cmpi .sge kp (broadcast S128x384 0#32))) (cmpi .slt kp (broadcast S128x384 8192#32))

/-- The scores. -/
def scores (kwin : FVec Ideal S2304x128 .bf16) (va : IVec S128x384 1) (q : Vec Ideal S1x128x128 .bf16) (b : Vec Ideal S1x128x384 .f32)
    (o : ℕ) (h : S2304x128.Slices ![o, 0] S384x128) : FVec Ideal S1x128x384 .f32 :=
  shapeCast S1x128x384 (select va
    (addf (mulf (matmul (φ₁ := .bf16) dot_S128x128_S384x128_S128x384_1_1_0_0_n_n none (shapeCast S128x128 q shapeCasts_S1x128x128_S128x128)
        (extractStridedSlice S384x128 ![o, 0] kwin h) (constant S128x384 .f32 0x00000000#32))
      (broadcast S128x384 (Named.named κ "scale_log2e" 0x3E0293EE#32)))
      (mulf (shapeCast S128x384 b shapeCasts_S1x128x384_S128x384) (broadcast S128x384 (Named.named κ "log2e" 0x3FB8AA3B#32))))
    (broadcast S128x384 (Named.named κ "mask" 0xF149F2CA#32))) shapeCasts_S128x384_S1x128x384

/-- The sink, scaled. -/
def sink (c : Vec Ideal S1x1x128 .f32) : FVec Ideal S1x1 .f32 :=
  mulf (extractStridedSlice S1x1 ![0, 0] (shapeCast S1x128 c shapeCasts_S1x1x128_S1x128) slices_S1x128_o0_0_S1x1)
    (broadcast S1x1 (Named.named κ "log2e" 0x3FB8AA3B#32))

/-- The rows' maxima. -/
def rowMax (c : FVec Ideal S1x1 .f32) (s : Vec Ideal S1x128x384 .f32) : FVec Ideal S1x128x1 .f32 :=
  shapeCast S1x128x1 (maximumf (shapeCast S128x1 (multiReduction .maximumf [1] S128 (shapeCast S128x384 s shapeCasts_S1x128x384_S128x384)
      0xFF800000#32 reduces_S128x384_S128 (.inl rfl) rfl) shapeCasts_S128_S128x1)
    (broadcastTo S128x1 c broadcasts_S1x1_S128x1)) shapeCasts_S128x1_S1x128x1

/-- The powers. -/
def powers (s : Vec Ideal S1x128x384 .f32) (mx : Vec Ideal S1x128x1 .f32) : FVec Ideal S1x128x384 .bf16 :=
  shapeCast S1x128x384 (truncf .bf16 (exp2 (subf (shapeCast S128x384 s shapeCasts_S1x128x384_S128x384)
    (broadcastTo S128x384 (shapeCast S128x1 mx shapeCasts_S1x128x1_S128x1) broadcasts_S128x1_S128x384))) bitsLt_bf16_f32)
    shapeCasts_S128x384_S1x128x384

/-- The window's values, with columns of ones beside them. -/
def vext (vwin : FVec Ideal S2304x128 .bf16) (o : ℕ) (h : S2304x128.Slices ![o, 0] S384x128) : FVec Ideal S384x256 .bf16 :=
  concatenate S384x256 1 [⟨S384x128, extractStridedSlice S384x128 ![o, 0] vwin h⟩, ⟨S384x128, k0_pay11 (F := Ideal)⟩]
    concatenates_S384x128_S384x128_S384x256_d1

/-- The unit's block of the result. -/
def values (c : FVec Ideal S1x1 .f32) (ve : FVec Ideal S384x256 .bf16) (p : Vec Ideal S1x128x384 .bf16) (mx : Vec Ideal S1x128x1 .f32) :
    FVec Ideal S1x128x128 .f32 :=
  let ov := matmul (φ₁ := .bf16) dot_S128x384_S384x256_S128x256_1_0_0_1_n_n none (shapeCast S128x384 p shapeCasts_S1x128x384_S128x384) ve
    (constant S128x256 .f32 0x00000000#32)
  shapeCast S1x128x128 (divf (extractStridedSlice S128x128 ![0, 0] ov slices_S128x256_o0_0_S128x128)
    (broadcastTo S128x128 (addf (extractStridedSlice S128x1 ![0, 128] ov slices_S128x256_o0_128_S128x1)
      (exp2 (subf (broadcastTo S128x1 c broadcasts_S1x1_S128x1) (shapeCast S128x1 mx shapeCasts_S1x128x1_S128x1))))
      broadcasts_S128x1_S128x128)) shapeCasts_S128x128_S1x128x128

/-- The whole unit. -/
def unit (kwin vwin : FVec Ideal S2304x128 .bf16) (va : IVec S128x384 1) (q : Vec Ideal S1x128x128 .bf16)
    (b : Vec Ideal S1x128x384 .f32) (c : Vec Ideal S1x1x128 .f32) (o : ℕ) (h : S2304x128.Slices ![o, 0] S384x128) :
    FVec Ideal S1x128x128 .f32 :=
  values (sink c) (vext vwin o h) (powers (scores kwin va q b o h) (rowMax (sink c) (scores kwin va q b o h)))
    (rowMax (sink c) (scores kwin va q b o h))

theorem log2e : Named.named (F := Ideal) κ "log2e" (φ := .f32) 0x3FB8AA3B#32 = ((lg : ℝ) : EReal) :=
  IdealRules.named_const.ideal_named_scalar _ _ _ _ rfl

theorem scale_log2e : Named.named (F := Ideal) κ "scale_log2e" (φ := .f32) 0x3E0293EE#32 = (((Real.sqrt 128)⁻¹ * lg : ℝ) : EReal) :=
  IdealRules.named_const.ideal_named_scalar _ _ _ _ rfl

theorem mask : Named.named (F := Ideal) κ "mask" (φ := .f32) 0xF149F2CA#32 = ⊥ :=
  IdealRules.named_const.ideal_named_scalar _ _ _ _ rfl

theorem scores_apply (kwin : FVec Ideal S2304x128 .bf16) (va : IVec S128x384 1) (q : Vec Ideal S1x128x128 .bf16)
    (b : Vec Ideal S1x128x384 .f32) (o : ℕ) (h : S2304x128.Slices ![o, 0] S384x128) (r : Fin 128) (j : Fin 384) (ho : o + 384 ≤ 2304) :
    scores kwin va q b o h (ix3 0 r j) = Scalar.select (va (ix2 r j))
      (HAdd.hAdd (α := EReal) (β := EReal) (γ := EReal)
        (HMul.hMul (α := EReal) (β := EReal) (γ := EReal) (∑ e : Fin 128, HMul.hMul (α := EReal) (β := EReal) (γ := EReal)
          (q (ix3 0 r e)) (kwin (ix2 ⟨o + j.val, by omega⟩ e))) (((Real.sqrt 128)⁻¹ * lg : ℝ) : EReal))
        (HMul.hMul (α := EReal) (β := EReal) (γ := EReal) (b (ix3 0 r j)) ((lg : ℝ) : EReal))) ⊥ := by
  unfold scores
  pointwise [log2e, scale_log2e, mask]

theorem sink_apply (c : Vec Ideal S1x1x128 .f32) : sink c (ix2 0 0) = HMul.hMul (α := EReal) (β := EReal) (γ := EReal) (c (ix3 0 0 0)) ((lg : ℝ) : EReal) := by
  unfold sink
  pointwise [log2e]

theorem rowMax_apply (c : FVec Ideal S1x1 .f32) (s : Vec Ideal S1x128x384 .f32) (r : Fin 128) :
    rowMax c s (ix3 0 r 0) = max (α := EReal) (Finset.univ.fold max ⊥ fun j : Fin 384 => s (ix3 0 r j)) (c (ix2 0 0)) := by
  unfold rowMax
  pointwise [ofBits_neg_inf]

theorem powers_apply (s : Vec Ideal S1x128x384 .f32) (mx : Vec Ideal S1x128x1 .f32) (r : Fin 128) (j : Fin 384) :
    powers s mx (ix3 0 r j) = Ideal.exp2 (HSub.hSub (α := EReal) (β := EReal) (γ := EReal) (s (ix3 0 r j)) (mx (ix3 0 r 0))) := by
  unfold powers
  pointwise
  rfl

theorem values_apply (c : FVec Ideal S1x1 .f32) (vwin : FVec Ideal S2304x128 .bf16) (o : ℕ) (h : S2304x128.Slices ![o, 0] S384x128)
    (p : Vec Ideal S1x128x384 .bf16) (mx : Vec Ideal S1x128x1 .f32) (r : Fin 128) (d : Fin 128) (ho : o + 384 ≤ 2304) :
    values c (vext vwin o h) p mx (ix3 0 r d) = Ideal.div
      (∑ j : Fin 384, HMul.hMul (α := EReal) (β := EReal) (γ := EReal) (p (ix3 0 r j)) (vwin (ix2 ⟨o + j.val, by omega⟩ d)))
      ((∑ j : Fin 384, HAdd.hAdd (α := EReal) (β := EReal) (γ := EReal) (p (ix3 0 r j)) 0)
        + Ideal.exp2 (HSub.hSub (α := EReal) (β := EReal) (γ := EReal) (c (ix2 0 0)) (mx (ix3 0 r 0)))) := by
  unfold values vext
  pointwise [k0_pay11]
  rfl

/-- A score of the reference, from its key `k`, query `q` and bias `b`. -/
def refScore (va : BitVec 1) (k q : Fin 128 → EReal) (b : EReal) : EReal :=
  Scalar.select va (Ideal.div (∑ e, k e * q e) ((Real.sqrt 128 : ℝ) : EReal) + b) ⊥

theorem select_one {α : Type} {va : BitVec 1} (h : va = 1#1) (x y : α) : Scalar.select va x y = x := by
  subst h
  rfl

theorem select_zero {α : Type} {va : BitVec 1} (h : va ≠ 1#1) (x y : α) : Scalar.select va x y = y := if_neg h

theorem refScore_isScore {va : BitVec 1} {k q : Fin 128 → EReal} {b : EReal} (hk : va = 1#1 → ∀ e, IsReal (k e)) (hq : ∀ e, IsReal (q e))
    (hb : IsReal b) : IsScore (refScore va k q b) := by
  unfold refScore
  by_cases h : va = 1#1
  · rw [select_one h, Ideal.div_coe (Real.sqrt_pos.mpr (by norm_num)).ne']
    exact .inr (((IsReal.sum _ fun e => (hk h e).mul (hq e)).mul ⟨_, rfl⟩).add hb)
  · rw [select_zero h]
    exact .inl rfl

/-- The kernel's score is the reference's, scaled. -/
theorem score_scaled {va : BitVec 1} {k k' q : Fin 128 → EReal} {b : EReal} (hk : va = 1#1 → ∀ e, IsReal (k e))
    (hk' : va = 1#1 → k' = k) (hq : ∀ e, IsReal (q e)) (hb : IsReal b) :
    Scalar.select va ((∑ e, q e * k' e) * (((Real.sqrt 128)⁻¹ * lg : ℝ) : EReal) + b * ((lg : ℝ) : EReal)) ⊥
    = refScore va k q b * ((lg : ℝ) : EReal) := by
  unfold refScore
  by_cases h : va = 1#1
  · rw [select_one h, select_one h, hk' h, Ideal.div_coe (Real.sqrt_pos.mpr (by norm_num)).ne']
    obtain ⟨x, hx⟩ := IsReal.sum Finset.univ fun e => (hk h e).mul (hq e)
    obtain ⟨y, hy⟩ := hb
    simp only [mul_comm (q _), hx, hy, ← EReal.coe_mul, ← EReal.coe_add]
    congr 1
    ring
  · rw [select_zero h, select_zero h, EReal.bot_mul_coe_of_pos lg_pos]

/-- What the unit leaves in row `r`, column `d` of its block is the reference's row. -/
theorem unit_row (kwin vwin : FVec Ideal S2304x128 .bf16) (va : IVec S128x384 1) (q : Vec Ideal S1x128x128 .bf16)
    (b : Vec Ideal S1x128x384 .f32) (c : Vec Ideal S1x1x128 .f32) (o : ℕ) (h : S2304x128.Slices ![o, 0] S384x128) (ho : o + 384 ≤ 2304)
    (r d : Fin 128) (k : Fin 384 → Fin 128 → EReal) (v : Fin 384 → EReal)
    (hk : ∀ j, va (ix2 r j) = 1#1 → ∀ e, kwin (ix2 ⟨o + j.val, by omega⟩ e) = k j e ∧ IsReal (k j e))
    (hv : ∀ j, va (ix2 r j) = 1#1 → vwin (ix2 ⟨o + j.val, by omega⟩ d) = v j)
    (hq : ∀ e, IsReal (q (ix3 0 r e))) (hb : ∀ j, IsReal (b (ix3 0 r j))) (hc : IsReal (c (ix3 0 0 0))) :
    unit kwin vwin va q b c o h (ix3 0 r d)
    = attnRow (fun j => refScore (va (ix2 r j)) (k j) (fun e => q (ix3 0 r e)) (b (ix3 0 r j))) (c (ix3 0 0 0)) v := by
  unfold unit
  rw [values_apply _ _ _ _ _ _ _ _ ho]
  simp only [powers_apply, rowMax_apply, scores_apply _ _ _ _ _ _ _ _ ho, sink_apply]
  have hs : ∀ j, Scalar.select (va (ix2 r j)) ((∑ e, (q (ix3 0 r e) : EReal) * kwin (ix2 ⟨o + j.val, by omega⟩ e)) * (((Real.sqrt 128)⁻¹ * lg : ℝ) : EReal)
      + b (ix3 0 r j) * ((lg : ℝ) : EReal)) ⊥ = refScore (va (ix2 r j)) (k j) (fun e => q (ix3 0 r e)) (b (ix3 0 r j)) * ((lg : ℝ) : EReal) := fun j =>
    score_scaled (k' := fun e => kwin (ix2 ⟨o + j.val, by omega⟩ e)) (fun h e => (hk j h e).2) (fun h => funext fun e => (hk j h e).1) hq (hb j)
  simp only [hs]
  refine Eq.trans ?_ (softmax_row (v' := fun j => vwin (ix2 ⟨o + j.val, by omega⟩ d)) (fun j => refScore_isScore (fun h e => (hk j h e).2) hq (hb j)) hc fun j hj => hv j ?_)
  · simp only [add_zero]
  · by_contra hn
    exact hj (select_zero hn _ _)

end Cert.Proof.Unit

end
-- ==== Proof.RefTerm.lean ====
/- The reference, its lines by name. -/
module

public import proofs.«01_k».proof.Proof.Gen.ReferenceIdeal.Run
public import proofs.«01_k».proof.Proof.Reals
public import proofs.«01_k».proof.Proof.Softmax
public import Idealize.ShloMosaic.Lib.Pipeline.ValueKit
public import Idealize.ShloMosaic.Lib.Pointwise

@[expose] public section

set_option maxRecDepth 16384

noncomputable section

namespace Cert.Proof.RefRow

open Idealize.ShloMosaic Idealize.ShloMosaic.TcCoe Idealize.SL.Sem
open Cert.ReferenceIdeal Cert.ReferenceIdeal.Gen Cert.ReferenceIdeal.Facts

/-! The reference's term in named steps: the rows, the padded keys and values, their windows, the mask, the position biases, the
scores, the sinks, the row maxima, the powers, the weights, the result. -/

def rows (x : FVec Ideal S49152x1536 .bf16) : FVec Ideal S6x8192x1536 .f32 :=
  shapeCast _ (extf .f32 x bitsLt_bf16_f32) shapeCasts_S49152x1536_S6x8192x1536

def vpad (x : FVec Ideal S49152x1536 .bf16) : FVec Ideal S6x66x128x2x128 .f32 :=
  shapeCast _ (pad S6x8448x2x128 ![0, 128, 0, 0] ![0, 128, 0, 0] ![0, 0, 0, 0] (shapeCast _ (extractStridedSlice S6x8192x256
    ![0, 0, 1280] (rows x) slices_S6x8192x1536_S6x8192x256_0_0_1280) shapeCasts_S6x8192x256_S6x8192x2x128) (sitofp .f32
    (constantI S_ 32 0#32)) pads_S6x8192x2x128_S6x8448x2x128_000_1281280_000_000 h_S_) shapeCasts_S6x8448x2x128_S6x66x128x2x128

def kpad (x : FVec Ideal S49152x1536 .bf16) : FVec Ideal S6x66x128x2x128 .f32 :=
  shapeCast _ (pad S6x8448x2x128 ![0, 128, 0, 0] ![0, 128, 0, 0] ![0, 0, 0, 0] (shapeCast _ (extractStridedSlice S6x8192x256
    ![0, 0, 1024] (rows x) slices_S6x8192x1536_S6x8192x256_0_0_1024) shapeCasts_S6x8192x256_S6x8192x2x128) (sitofp .f32
    (constantI S_ 32 0#32)) pads_S6x8192x2x128_S6x8448x2x128_000_1281280_000_000 h_S_) shapeCasts_S6x8448x2x128_S6x66x128x2x128

def vwin (x : FVec Ideal S49152x1536 .bf16) : FVec Ideal S6x64x384x2x128 .f32 :=
  concatenate S6x64x384x2x128 2 [⟨S6x64x128x2x128, ((extractStridedSlice S6x64x128x2x128 ![0, 0, 0, 0, 0] (vpad x)
    slices_S6x66x128x2x128_S6x64x128x2x128_0_0_0_0_0) : (⟨S6x64x128x2x128, .f32⟩ : BufTy).Contents (Elt Ideal))⟩,
    ⟨S6x64x128x2x128, ((extractStridedSlice S6x64x128x2x128 ![0, 1, 0, 0, 0] (vpad x)
    slices_S6x66x128x2x128_S6x64x128x2x128_0_1_0_0_0) : (⟨S6x64x128x2x128, .f32⟩ : BufTy).Contents (Elt Ideal))⟩,
    ⟨S6x64x128x2x128, ((extractStridedSlice S6x64x128x2x128 ![0, 2, 0, 0, 0] (vpad x)
    slices_S6x66x128x2x128_S6x64x128x2x128_0_2_0_0_0) : (⟨S6x64x128x2x128, .f32⟩ : BufTy).Contents (Elt Ideal))⟩]
    concatenates_S6x64x128x2x128_S6x64x128x2x128_S6x64x128x2x128_S6x64x384x2x128_d2

def kwin (x : FVec Ideal S49152x1536 .bf16) : FVec Ideal S6x64x384x2x128 .f32 :=
  concatenate S6x64x384x2x128 2 [⟨S6x64x128x2x128, ((extractStridedSlice S6x64x128x2x128 ![0, 0, 0, 0, 0] (kpad x)
    slices_S6x66x128x2x128_S6x64x128x2x128_0_0_0_0_0) : (⟨S6x64x128x2x128, .f32⟩ : BufTy).Contents (Elt Ideal))⟩,
    ⟨S6x64x128x2x128, ((extractStridedSlice S6x64x128x2x128 ![0, 1, 0, 0, 0] (kpad x)
    slices_S6x66x128x2x128_S6x64x128x2x128_0_1_0_0_0) : (⟨S6x64x128x2x128, .f32⟩ : BufTy).Contents (Elt Ideal))⟩,
    ⟨S6x64x128x2x128, ((extractStridedSlice S6x64x128x2x128 ![0, 2, 0, 0, 0] (kpad x)
    slices_S6x66x128x2x128_S6x64x128x2x128_0_2_0_0_0) : (⟨S6x64x128x2x128, .f32⟩ : BufTy).Contents (Elt Ideal))⟩]
    concatenates_S6x64x128x2x128_S6x64x128x2x128_S6x64x128x2x128_S6x64x384x2x128_d2

def mask : IVec S64x128x384 1 :=
  andi (broadcastInDim S64x128x384 ![0, 1, 2] bcast_S1x128x384_S64x128x384_0_1_2 (broadcastInDim S1x128x384 ![1, 2]
    bcast_S128x384_S1x128x384_1_2 (cmpi .sle (absi (subi (broadcastInDim S128x384 ![0, 1] bcast_S1x384_S128x384_0_1 (subi
    (broadcastInDim S1x384 ![1] bcast_S384_S1x384_1 (iotaInDim S384 32 0)) (broadcastInDim S1x384 ![] bcast_S_S1x384 (constantI
    S_ 32 128#32)))) (broadcastInDim S128x384 ![0, 1] bcast_S128x1_S128x384_0_1 (broadcastInDim S128x1 ![0] bcast_S128_S128x1_0
    (iotaInDim S128 32 0))))) (broadcastInDim S128x384 ![] bcast_S_S128x384 (constantI S_ 32 128#32))))) (broadcastInDim
    S64x128x384 ![0, 1, 2] bcast_S64x1x384_S64x128x384_0_1_2 (broadcastInDim S64x1x384 ![0, 2] bcast_S64x384_S64x1x384_0_2
    (andi (cmpi .sge (addi (broadcastInDim S64x384 ![0, 1] bcast_S64x1_S64x384_0_1 (subi (muli (broadcastInDim S64x1 ![0]
    bcast_S64_S64x1_0 (iotaInDim S64 32 0)) (broadcastInDim S64x1 ![] bcast_S_S64x1 (constantI S_ 32 128#32))) (broadcastInDim
    S64x1 ![] bcast_S_S64x1 (constantI S_ 32 128#32)))) (broadcastInDim S64x384 ![0, 1] bcast_S1x384_S64x384_0_1
    (broadcastInDim S1x384 ![1] bcast_S384_S1x384_1 (iotaInDim S384 32 0)))) (broadcastInDim S64x384 ![] bcast_S_S64x384
    (constantI S_ 32 0#32))) (cmpi .slt (addi (broadcastInDim S64x384 ![0, 1] bcast_S64x1_S64x384_0_1 (subi (muli
    (broadcastInDim S64x1 ![0] bcast_S64_S64x1_0 (iotaInDim S64 32 0)) (broadcastInDim S64x1 ![] bcast_S_S64x1 (constantI S_ 32
    128#32))) (broadcastInDim S64x1 ![] bcast_S_S64x1 (constantI S_ 32 128#32)))) (broadcastInDim S64x384 ![0, 1]
    bcast_S1x384_S64x384_0_1 (broadcastInDim S1x384 ![1] bcast_S384_S1x384_1 (iotaInDim S384 32 0)))) (broadcastInDim S64x384
    ![] bcast_S_S64x384 (constantI S_ 32 8192#32))))))

def bias (rb : FVec Ideal S32x8 .f32) : FVec Ideal S2x4x128x384 .f32 :=
  shapeCast _ (transpose S8x128x384 [2, 0, 1] (Host.gather gather_S32x8_S128x384x1_S128x384x8_2_0_n_n_0_2_18 rb (broadcastInDim
    S128x384x1 ![0, 1] bcast_S128x384_S128x384x1_0_1 (select (constantI S128x384 1 0#1) (addi ((fun i => lit0
    (S128x384.rowMajor i))) (broadcastInDim S128x384 ![] bcast_S_S128x384 (constantI S_ 32 32#32))) ((fun i => lit0
    (S128x384.rowMajor i)))))) transposes_S128x384x8_S8x128x384_2_0_1) shapeCasts_S8x128x384_S2x4x128x384

def scores (x : FVec Ideal S49152x1536 .bf16) (rb : FVec Ideal S32x8 .f32) : FVec Ideal S6x64x2x4x128x384 .f32 :=
  select (broadcastInDim S6x64x2x4x128x384 ![0, 1, 2, 3, 4, 5] bcast_S1x64x1x1x128x384_S6x64x2x4x128x384_0_1_2_3_4_5
    (broadcastInDim S1x64x1x1x128x384 ![1, 4, 5] bcast_S64x128x384_S1x64x1x1x128x384_1_4_5 mask)) (addf (Host.divf (transpose
    S6x64x2x4x128x384 [0, 1, 2, 5, 4, 3] (Host.dotGeneral
    dot_S6x64x384x2x128_S6x64x128x2x4x128_S6x64x2x384x128x4_4_5_2_24_013_013 none (kwin x) (shapeCast _ (extractStridedSlice
    S6x8192x1024 ![0, 0, 0] (rows x) slices_S6x8192x1536_S6x8192x1024_0_0_0) shapeCasts_S6x8192x1024_S6x64x128x2x4x128))
    transposes_S6x64x2x384x128x4_S6x64x2x4x128x384_0_1_2_5_4_3) (broadcastInDim S6x64x2x4x128x384 ![] bcast_S_S6x64x2x4x128x384
    (id (Host.sqrt (constant S_ .f32 0x43000000#32))))) (broadcastInDim S6x64x2x4x128x384 ![0, 1, 2, 3, 4, 5]
    bcast_S1x1x2x4x128x384_S6x64x2x4x128x384_0_1_2_3_4_5 (broadcastInDim S1x1x2x4x128x384 ![2, 3, 4, 5]
    bcast_S2x4x128x384_S1x1x2x4x128x384_2_3_4_5 (bias rb)))) (broadcastInDim S6x64x2x4x128x384 ![] bcast_S_S6x64x2x4x128x384
    (id (constant S_ .f32 0xFF800000#32)))

def sinks (sk : FVec Ideal S8 .f32) : FVec Ideal S1x1x2x4x1x1 .f32 :=
  broadcastInDim S1x1x2x4x1x1 ![2, 3] bcast_S2x4_S1x1x2x4x1x1_2_3 (shapeCast _ sk shapeCasts_S8_S2x4)

def rowTop (x : FVec Ideal S49152x1536 .bf16) (rb : FVec Ideal S32x8 .f32) : FVec Ideal S6x64x2x4x128 .f32 :=
  Host.reduce FloatOps.maximumf (scores x rb) (constant S_ .f32 0xFF800000#32) reducesTo_S6x64x2x4x128x384_S6x64x2x4x128_d5 h_S_

def top (x : FVec Ideal S49152x1536 .bf16) (rb : FVec Ideal S32x8 .f32) (sk : FVec Ideal S8 .f32) : FVec Ideal S6x64x2x4x128x1
    .f32 :=
  maximumf (broadcastInDim S6x64x2x4x128x1 ![0, 1, 2, 3, 4] bcast_S6x64x2x4x128_S6x64x2x4x128x1_0_1_2_3_4 (rowTop x rb))
    (broadcastInDim S6x64x2x4x128x1 ![0, 1, 2, 3, 4, 5] bcast_S1x1x2x4x1x1_S6x64x2x4x128x1_0_1_2_3_4_5 (sinks sk))

def powers (x : FVec Ideal S49152x1536 .bf16) (rb : FVec Ideal S32x8 .f32) (sk : FVec Ideal S8 .f32) : FVec Ideal
    S6x64x2x4x128x384 .f32 :=
  Host.exp (subf (scores x rb) (broadcastInDim S6x64x2x4x128x384 ![0, 1, 2, 3, 4, 5]
    bcast_S6x64x2x4x128x1_S6x64x2x4x128x384_0_1_2_3_4_5 (top x rb sk)))

def probs (x : FVec Ideal S49152x1536 .bf16) (rb : FVec Ideal S32x8 .f32) (sk : FVec Ideal S8 .f32) : FVec Ideal
    S6x64x2x4x128x384 .f32 :=
  Host.divf (powers x rb sk) (broadcastInDim S6x64x2x4x128x384 ![0, 1, 2, 3, 4, 5]
    bcast_S6x64x2x4x128x1_S6x64x2x4x128x384_0_1_2_3_4_5 (addf (broadcastInDim S6x64x2x4x128x1 ![0, 1, 2, 3, 4]
    bcast_S6x64x2x4x128_S6x64x2x4x128x1_0_1_2_3_4 (Host.reduceAdd (powers x rb sk) (constant S_ .f32 0x00000000#32)
    reducesTo_S6x64x2x4x128x384_S6x64x2x4x128_d5 h_S_)) (Host.exp (subf (broadcastInDim S6x64x2x4x128x1 ![0, 1, 2, 3, 4, 5]
    bcast_S1x1x2x4x1x1_S6x64x2x4x128x1_0_1_2_3_4_5 (sinks sk)) (top x rb sk)))))

def out (x : FVec Ideal S49152x1536 .bf16) (rb : FVec Ideal S32x8 .f32) (sk : FVec Ideal S8 .f32) : FVec Ideal S6x8192x1024
    .f32 :=
  shapeCast _ (transpose S6x64x128x2x4x128 [0, 1, 5, 2, 4, 3] (Host.dotGeneral
    dot_S6x64x384x2x128_S6x64x2x4x128x384_S6x64x2x128x4x128_2_5_4_34_013_012 none (vwin x) (probs x rb sk))
    transposes_S6x64x2x128x4x128_S6x64x128x2x4x128_0_1_5_2_4_3) shapeCasts_S6x64x128x2x4x128_S6x8192x1024

theorem out_eq (m : (ℓ : Loc nD τ sig) → Buf (Elt Ideal) ℓ) (c : Dev nD) : Value.res_main_v90 m c
    = out (m ((c.tc : Thread nD τ).loc main_arg0)) (m ((c.tc : Thread nD τ).loc main_arg1)) (m ((c.tc : Thread nD τ).loc main_arg2)) := rfl

section fiber
variable {n0 n1 n2 n3 n4 n5 : ℕ}

/-- The indices that drop to an index, where of six axes the last one is dropped. -/
theorem fiber (h : (⟨6, ![n0, n1, n2, n3, n4, n5]⟩ : Shape).ReducesTo [5] ⟨5, ![n0, n1, n2, n3, n4]⟩) (a : Fin n0) (b : Fin n1)
    (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

theorem max_row {u : Shape} (h : (⟨6, ![n0, n1, n2, n3, n4, n5]⟩ : Shape).ReducesTo [5] ⟨5, ![n0, n1, n2, n3, n4]⟩) (hu : 0 < u.numel)
    (a : Fin n0) (b : Fin n1) (c : Fin n2) (d : Fin n3) (e : Fin n4) (z : u.Idx → Ideal .f32)
    (v : (⟨6, ![n0, n1, n2, n3, n4, n5]⟩ : Shape).Idx → Ideal .f32) (hz : z (Shape.Idx.first hu) = (⊥ : EReal)) :
    Host.reduce FloatOps.maximumf v z h hu (ix5 a b c d e)
      = (Finset.univ : Finset (Fin n5)).fold max (⊥ : EReal) (fun k => v (ix6 a b c d e k)) := by
  rw [Host.reduce_eq_fold, ← hz]
  exact Finset.fold_filter_eq_fold_of_fiber max _ (fun k : Fin n5 => ix6 a b c d e k) (fun _ _ q => congrFun q 5) (fiber h a b c d e) _ v

theorem sum_row (h : (⟨6, ![n0, n1, n2, n3, n4, n5]⟩ : Shape).ReducesTo [5] ⟨5, ![n0, n1, n2, n3, n4]⟩) (a : Fin n0) (b : Fin n1)
    (c : Fin n2) (d : Fin n3) (e : Fin n4) (z : EReal) (v : (⟨6, ![n0, n1, n2, n3, n4, n5]⟩ : Shape).Idx → EReal) :
    Ideal.hostReduceAdd h v z (ix5 a b c d e) = z + ∑ k : Fin n5, v (ix6 a b c d e k) :=
  congrArg (z + ·) (Finset.sum_filter_eq_sum_of_fiber _ (fun k : Fin n5 => ix6 a b c d e k) (fun _ _ q => congrFun q 5)
    (fiber h a b c d e) v)

end fiber

end Cert.Proof.RefRow

end
-- ==== Proof.Mask.lean ====
/- The attention's mask, and a unit of its kernel beside the reference. -/
module

public import proofs.«01_k».proof.Proof.Unit
public import proofs.«01_k».proof.Proof.RefTerm
public import Idealize.ShloMosaic.Lib.Pipeline.ValueKit
public import Idealize.ShloMosaic.Lib.Pointwise

@[expose] public section

set_option maxRecDepth 16384

noncomputable section

namespace Cert.Proof.Mask

open Idealize.ShloMosaic Idealize.ShloMosaic.TcCoe Idealize.SL.Sem

/-- Whether the row at place `j` of block `n`'s window lies in the sequence. -/
def inside (w : BitVec 32) : BitVec 1 := IntOp.andi (IntOp.cmpi .sge w 0#32) (IntOp.cmpi .slt w 8192#32)

/-- Whether a query sees a key of its window, by their distance. -/
def band (r j : ℕ) : BitVec 1 :=
  IntOp.cmpi .sle (IntOp.absi (IntOp.subi (IntOp.subi (BitVec.ofNat 32 j) 128#32) (BitVec.ofNat 32 r))) 128#32

theorem andi_assoc (a b c : BitVec 1) : IntOp.andi (IntOp.andi a b) c = IntOp.andi a (IntOp.andi b c) := by
  revert a b c
  decide

/-- The mask of the reference. -/
theorem ref_mask (n : Fin 64) (r : Fin 128) (j : Fin 384) : RefRow.mask (ix3 n r j)
    = IntOp.andi (band r.val j.val) (inside (IntOp.addi (IntOp.subi (IntOp.muli (BitVec.ofNat 32 n.val) 128#32) 128#32) (BitVec.ofNat 32 j.val))) := by
  pointwise [RefRow.mask]
  rfl

/-- The mask of the kernel's unit. -/
theorem kernel_mask (a b : BitVec 32) (r : Fin 128) (j : Fin 384) : Unit.valid a b (ix2 r j)
    = IntOp.andi (band r.val j.val) (inside (IntOp.addi (IntOp.addi (IntOp.muli a 2048#32) b) (BitVec.ofNat 32 j.val))) := by
  refine Eq.trans ?_ (andi_assoc _ _ _)
  pointwise [Unit.valid, Cert.KernelIdeal.Gen.k0_pay5]
  rfl

/-- The first place of a group's window, as the kernel and as the reference count it. -/
theorem place (a : ℕ) (sb : ℕ) (ha : a < 4) (hs : sb < 16) :
    IntOp.addi (IntOp.muli (BitVec.ofNat 32 a) 2048#32) (BitVec.ofNat 32 (sb * 128) - 128#32)
      = IntOp.subi (IntOp.muli (BitVec.ofNat 32 (a * 16 + sb)) 128#32) 128#32 :=
  (by decide +kernel : ∀ (a : Fin 4) (sb : Fin 16), IntOp.addi (IntOp.muli (BitVec.ofNat 32 a.val) 2048#32) (BitVec.ofNat 32 (sb.val * 128) - 128#32)
      = IntOp.subi (IntOp.muli (BitVec.ofNat 32 (a.val * 16 + sb.val)) 128#32) 128#32) ⟨a, ha⟩ ⟨sb, hs⟩

/-- The two masks are the same. -/
theorem same (a : ℕ) (sb : ℕ) (ha : a < 4) (hs : sb < 16) (r : Fin 128) (j : Fin 384) :
    Unit.valid (BitVec.ofNat 32 a) (BitVec.ofNat 32 (sb * 128) - 128#32) (ix2 r j) = RefRow.mask (ix3 ⟨a * 16 + sb, by omega⟩ r j) := by
  rw [kernel_mask, ref_mask, place a sb ha hs]

/-- A place that lies in the sequence, as an inequality. -/
theorem inside_iff : ∀ (n : Fin 64) (j : Fin 384),
    inside (IntOp.addi (IntOp.subi (IntOp.muli (BitVec.ofNat 32 n.val) 128#32) 128#32) (BitVec.ofNat 32 j.val)) = 1#1 →
      128 ≤ n.val * 128 + j.val ∧ n.val * 128 + j.val < 8320 := by
  decide +kernel

/-- What the mask lets through is a row of the sequence. -/
theorem row (n : Fin 64) (r : Fin 128) (j : Fin 384) (h : RefRow.mask (ix3 n r j) = 1#1) : ∃ p : Fin 8192, p.val + 128 = n.val * 128 + j.val := by
  rw [ref_mask] at h
  have hi := inside_iff n j ((by decide : ∀ a b : BitVec 1, IntOp.andi a b = 1#1 → b = 1#1) _ _ h)
  exact ⟨⟨n.val * 128 + j.val - 128, by omega⟩, by dsimp only; omega⟩

end Cert.Proof.Mask

end
-- ==== Proof.RefWeights.lean ====
/- The reference: the rows' maxima and the weights. -/
module

public import proofs.«01_k».proof.Proof.Gen.ReferenceIdeal.Run
public import proofs.«01_k».proof.Proof.RefTerm
public import proofs.«01_k».proof.Proof.Reals
public import proofs.«01_k».proof.Proof.Softmax
public import Idealize.ShloMosaic.Lib.Pipeline.ValueKit
public import Idealize.ShloMosaic.Lib.Pointwise

@[expose] public section

set_option maxRecDepth 16384

noncomputable section

namespace Cert.Proof.RefRow

open Idealize.ShloMosaic Idealize.ShloMosaic.TcCoe Idealize.SL.Sem
open Cert.ReferenceIdeal Cert.ReferenceIdeal.Gen Cert.ReferenceIdeal.Facts

variable (x : FVec Ideal S49152x1536 .bf16) (rb : FVec Ideal S32x8 .f32) (sk : FVec Ideal S8 .f32)

/-- The maximum of the scores of a row. -/
theorem rowTop_apply (b : Fin 6) (n : Fin 64) (h : Fin 2) (g : Fin 4) (r : Fin 128) :
    rowTop x rb (ix5 b n h g r) = Finset.univ.fold max (⊥ : EReal) fun j => scores x rb (ix6 b n h g r j) := by
  unfold rowTop
  exact max_row reducesTo_S6x64x2x4x128x384_S6x64x2x4x128_d5 h_S_ b n h g r _ (scores x rb) ofBits_neg_inf

theorem sinks_apply (h : Fin 2) (g : Fin 4) :
    sinks sk (ix6 (0 : Fin 1) (0 : Fin 1) h g (0 : Fin 1) (0 : Fin 1)) = sk (ix1 ⟨h.val * 4 + g.val, by omega⟩) := by
  pointwise [sinks]

theorem bt_row (v : FVec Ideal S6x64x2x4x128 .f32) (b : Fin 6) (n : Fin 64) (h : Fin 2) (g : Fin 4) (r : Fin 128) :
    broadcastInDim S6x64x2x4x128x1 ![0, 1, 2, 3, 4] bcast_S6x64x2x4x128_S6x64x2x4x128x1_0_1_2_3_4 v (ix6 b n h g r (0 : Fin 1)) = v (ix5 b n h g r) := by
  pointwise

theorem bt_sink (w : FVec Ideal S1x1x2x4x1x1 .f32) (b : Fin 6) (n : Fin 64) (h : Fin 2) (g : Fin 4) (r : Fin 128) :
    broadcastInDim S6x64x2x4x128x1 ![0, 1, 2, 3, 4, 5] bcast_S1x1x2x4x1x1_S6x64x2x4x128x1_0_1_2_3_4_5 w (ix6 b n h g r (0 : Fin 1)) = w (ix6 (0 : Fin 1) (0 : Fin 1) h g (0 : Fin 1) (0 : Fin 1)) := by
  pointwise

theorem top_split (b : Fin 6) (n : Fin 64) (h : Fin 2) (g : Fin 4) (r : Fin 128) :
    top x rb sk (ix6 b n h g r (0 : Fin 1)) = max (α := EReal) (rowTop x rb (ix5 b n h g r)) (sinks sk (ix6 (0 : Fin 1) (0 : Fin 1) h g (0 : Fin 1) (0 : Fin 1))) := by
  unfold top
  generalize rowTop x rb = v
  generalize sinks sk = w
  rw [show ∀ (p q : FVec Ideal S6x64x2x4x128x1 .f32) i, maximumf p q i = max (α := EReal) (p i) (q i) from fun _ _ _ => rfl, bt_row, bt_sink]

/-- The maximum of a row, its sink with it. -/
theorem top_apply (b : Fin 6) (n : Fin 64) (h : Fin 2) (g : Fin 4) (r : Fin 128) :
    top x rb sk (ix6 b n h g r (0 : Fin 1)) = max (Finset.univ.fold max (⊥ : EReal) fun j => scores x rb (ix6 b n h g r j)) (sk (ix1 ⟨h.val * 4 + g.val, by omega⟩)) := by
  rw [top_split, rowTop_apply, sinks_apply]

/-- A weight. -/
theorem probs_apply (b : Fin 6) (n : Fin 64) (h : Fin 2) (g : Fin 4) (r : Fin 128) (j : Fin 384) :
    probs x rb sk (ix6 b n h g r j) = Ideal.div (Ideal.exp (scores x rb (ix6 b n h g r j) - top x rb sk (ix6 b n h g r 0)))
      ((∑ k, Ideal.exp (scores x rb (ix6 b n h g r k) - top x rb sk (ix6 b n h g r 0)))
        + Ideal.exp (sk (ix1 ⟨h.val * 4 + g.val, by omega⟩) - top x rb sk (ix6 b n h g r 0))) := by
  pointwise [probs, powers, sinks, sum_row]

end Cert.Proof.RefRow

end
-- ==== Proof.RefBias.lean ====
/- The reference: its position biases. -/
module

public import proofs.«01_k».proof.Proof.Gen.ReferenceIdeal.Run
public import proofs.«01_k».proof.Proof.RefTerm
public import proofs.«01_k».proof.Proof.Reals
public import proofs.«01_k».proof.Proof.Softmax
public import Idealize.ShloMosaic.Lib.Pipeline.ValueKit
public import Idealize.ShloMosaic.Lib.Pointwise

@[expose] public section

set_option maxRecDepth 16384

noncomputable section

namespace Cert.Proof.RefRow

open Idealize.ShloMosaic Idealize.ShloMosaic.TcCoe Idealize.SL.Sem
open Cert.ReferenceIdeal Cert.ReferenceIdeal.Gen Cert.ReferenceIdeal.Facts

variable (x : FVec Ideal S49152x1536 .bf16) (rb : FVec Ideal S32x8 .f32) (sk : FVec Ideal S8 .f32)

/-- A bias is the table's row that the place's number names. -/
theorem bias_apply (h : Fin 2) (g : Fin 4) (r : Fin 128) (j : Fin 384) (l : Fin 32)
    (hl : (lit0 (S128x384.rowMajor (ix2 r j))).toNat = l.val) : bias rb (ix4 h g r j) = rb (ix2 l ⟨h.val * 4 + g.val, by omega⟩) := by
  pointwise [bias]
  unfold Host.gather
  congr 1
  funext a
  refine Fin.ext ?_
  match a with
  | ⟨0, _⟩ =>
    show GatherDims.start _ _ _ 0 + GatherDims.batchCoord _ _ 0 + GatherDims.offCoord _ _ 0 = l.val
    rw [GatherDims.batchCoord_eq_zero _ _ _ (by decide), GatherDims.offCoord_eq_zero _ _ _ (by decide)]
    unfold GatherDims.start
    rw [dif_pos (by decide)]
    have hi : ∀ k, GatherDims.siIdx gather_S32x8_S128x384x1_S128x384x8_2_0_n_n_0_2_18
        (ix3 r j (⟨h.val * 4 + g.val, by omega⟩ : Fin 8)) k = ix3 r j (0 : Fin 1) := fun k => by
      funext b'; apply Fin.ext
      match b' with
      | ⟨0, _⟩ => rfl
      | ⟨1, _⟩ => rfl
      | ⟨2, _⟩ => exact Nat.lt_one_iff.mp (Fin.isLt _)
    rw [hi]
    have e : (broadcastInDim S128x384x1 ![0, 1] bcast_S128x384_S128x384x1_0_1
        (select (constantI S128x384 1 0#1) (addi (fun i => lit0 (S128x384.rowMajor i))
          (broadcastInDim S128x384 ![] bcast_S_S128x384 (constantI S_ 32 32#32))) (fun i => lit0 (S128x384.rowMajor i)))
        (ix3 r j (0 : Fin 1))).toInt.toNat = l.val := by
      have e' : broadcastInDim S128x384x1 ![0, 1] bcast_S128x384_S128x384x1_0_1
        (select (constantI S128x384 1 0#1) (addi (fun i => lit0 (S128x384.rowMajor i))
          (broadcastInDim S128x384 ![] bcast_S_S128x384 (constantI S_ 32 32#32))) (fun i => lit0 (S128x384.rowMajor i)))
        (ix3 r j (0 : Fin 1)) = lit0 (S128x384.rowMajor (ix2 r j)) := by pointwise
      rw [e', BitVec.toInt_eq_toNat_of_lt (by omega), Int.toNat_natCast, hl]
    rw [e]
    show min l.val 31 + 0 + 0 = l.val
    omega
  | ⟨1, _⟩ =>
    show GatherDims.start _ _ _ 1 + GatherDims.batchCoord _ _ 1 + GatherDims.offCoord _ _ 1 = h.val * 4 + g.val
    rw [GatherDims.batchCoord_eq_zero _ _ _ (by decide)]
    unfold GatherDims.start GatherDims.offCoord
    rw [dif_neg (by decide), dif_pos (by decide)]
    rw [Nat.add_zero, Nat.zero_add]
    rfl

end Cert.Proof.RefRow

end
-- ==== Proof.RefOut.lean ====
/- The reference: an entry of its result. -/
module

public import proofs.«01_k».proof.Proof.Gen.ReferenceIdeal.Run
public import proofs.«01_k».proof.Proof.RefWeights
public import proofs.«01_k».proof.Proof.Reals
public import proofs.«01_k».proof.Proof.Softmax
public import Idealize.ShloMosaic.Lib.Pipeline.ValueKit
public import Idealize.ShloMosaic.Lib.Pointwise

@[expose] public section

set_option maxRecDepth 16384

noncomputable section

namespace Cert.Proof.RefRow

open Idealize.ShloMosaic Idealize.ShloMosaic.TcCoe Idealize.SL.Sem
open Cert.ReferenceIdeal Cert.ReferenceIdeal.Gen Cert.ReferenceIdeal.Facts

variable (x : FVec Ideal S49152x1536 .bf16) (rb : FVec Ideal S32x8 .f32) (sk : FVec Ideal S8 .f32)

theorem out_apply (b : Fin 6) (R : Fin 8192) (C : Fin 1024) : out x rb sk (ix3 b R C)
    = attnRow (fun j => scores x rb (ix6 b ⟨R.val / 128, by omega⟩ ⟨C.val / 512, by omega⟩ ⟨C.val / 128 % 4, by omega⟩ ⟨R.val % 128, by omega⟩ j))
      (sk (ix1 ⟨C.val / 128, by omega⟩))
      (fun j => vwin x (ix5 b ⟨R.val / 128, by omega⟩ j ⟨C.val / 512, by omega⟩ ⟨C.val % 128, by omega⟩)) := by
  have e : (⟨C.val / 512 * 4 + C.val / 128 % 4, by omega⟩ : Fin 8) = ⟨C.val / 128, by omega⟩ := Fin.ext (by dsimp only; omega)
  have o : out x rb sk (ix3 b R C) = ∑ k, vwin x (ix5 b ⟨R.val / 128, by omega⟩ k ⟨C.val / 512, by omega⟩ ⟨C.val % 128, by omega⟩)
      * probs x rb sk (ix6 b ⟨R.val / 128, by omega⟩ ⟨C.val / 512, by omega⟩ ⟨C.val / 128 % 4, by omega⟩ ⟨R.val % 128, by omega⟩ k) := by
    pointwise [out]
  rw [o]
  unfold attnRow
  simp only [probs_apply, top_apply, e]

end Cert.Proof.RefRow

end
-- ==== Proof.RefWindow.lean ====
/- The reference: the windows of its keys and values. -/
module

public import proofs.«01_k».proof.Proof.Gen.ReferenceIdeal.Run
public import proofs.«01_k».proof.Proof.RefTerm
public import proofs.«01_k».proof.Proof.Reals
public import proofs.«01_k».proof.Proof.Softmax
public import Idealize.ShloMosaic.Lib.Pipeline.ValueKit
public import Idealize.ShloMosaic.Lib.Pointwise

@[expose] public section

set_option maxRecDepth 16384

noncomputable section

namespace Cert.Proof.RefRow

open Idealize.ShloMosaic Idealize.ShloMosaic.TcCoe Idealize.SL.Sem
open Cert.ReferenceIdeal Cert.ReferenceIdeal.Gen Cert.ReferenceIdeal.Facts

variable (x : FVec Ideal S49152x1536 .bf16) (rb : FVec Ideal S32x8 .f32) (sk : FVec Ideal S8 .f32)

theorem kpad_apply (b : Fin 6) (n : Fin 66) (r : Fin 128) (h : Fin 2) (d : Fin 128) (p : Fin 8192) (hp : p.val + 128 = n.val * 128 + r.val) :
    kpad x (ix5 b n r h d) = x (ix2 ⟨b.val * 8192 + p.val, by omega⟩ ⟨1024 + (h.val * 128 + d.val), by omega⟩) := by
  have e : n.val * 128 + r.val - 128 = p.val := by omega
  pointwise [kpad, rows]
  simp only [e]
  rw [dif_pos ⟨by omega, p.isLt⟩]

theorem vpad_apply (b : Fin 6) (n : Fin 66) (r : Fin 128) (h : Fin 2) (d : Fin 128) (p : Fin 8192) (hp : p.val + 128 = n.val * 128 + r.val) :
    vpad x (ix5 b n r h d) = x (ix2 ⟨b.val * 8192 + p.val, by omega⟩ ⟨1280 + (h.val * 128 + d.val), by omega⟩) := by
  have e : n.val * 128 + r.val - 128 = p.val := by omega
  pointwise [vpad, rows]
  simp only [e]
  rw [dif_pos ⟨by omega, p.isLt⟩]

/-- Key `j` of the window of block `n` is the sequence's row `p`, where there is one. -/
theorem kwin_apply (b : Fin 6) (n : Fin 64) (j : Fin 384) (h : Fin 2) (d : Fin 128) (p : Fin 8192) (hp : p.val + 128 = n.val * 128 + j.val) :
    kwin x (ix5 b n j h d) = x (ix2 ⟨b.val * 8192 + p.val, by omega⟩ ⟨1024 + (h.val * 128 + d.val), by omega⟩) := by
  pointwise [kwin]
  split_ifs <;> first
    | exact kpad_apply x b _ _ h d p (by dsimp only; omega)
    | exact absurd rfl ‹¬_›

theorem vwin_apply (b : Fin 6) (n : Fin 64) (j : Fin 384) (h : Fin 2) (d : Fin 128) (p : Fin 8192) (hp : p.val + 128 = n.val * 128 + j.val) :
    vwin x (ix5 b n j h d) = x (ix2 ⟨b.val * 8192 + p.val, by omega⟩ ⟨1280 + (h.val * 128 + d.val), by omega⟩) := by
  pointwise [vwin]
  split_ifs <;> first
    | exact vpad_apply x b _ _ h d p (by dsimp only; omega)
    | exact absurd rfl ‹¬_›

end Cert.Proof.RefRow

end
-- ==== Proof.RefScore.lean ====
/- The reference: its scores. -/
module

public import proofs.«01_k».proof.Proof.Gen.ReferenceIdeal.Run
public import proofs.«01_k».proof.Proof.RefTerm
public import proofs.«01_k».proof.Proof.Reals
public import proofs.«01_k».proof.Proof.Softmax
public import Idealize.ShloMosaic.Lib.Pipeline.ValueKit
public import Idealize.ShloMosaic.Lib.Pointwise

@[expose] public section

set_option maxRecDepth 16384

noncomputable section

namespace Cert.Proof.RefRow

open Idealize.ShloMosaic Idealize.ShloMosaic.TcCoe Idealize.SL.Sem
open Cert.ReferenceIdeal Cert.ReferenceIdeal.Gen Cert.ReferenceIdeal.Facts

variable (x : FVec Ideal S49152x1536 .bf16) (rb : FVec Ideal S32x8 .f32) (sk : FVec Ideal S8 .f32)

theorem sqrt128 : Host.sqrt (constant (F := Ideal) S_ .f32 0x43000000#32) ix0 = ((√128 : ℝ) : EReal) := by
  show Ideal.sqrt (Ideal.ofBits .f32 0x43000000#32) = _
  have h : Ideal.ofBits .f32 0x43000000#32 = ((128 : ℝ) : EReal) := by
    simp [Ideal.ofBits, Ideal.ieee, -EReal.coe_mul]; norm_num
  rw [h, Ideal.sqrt_coe, if_neg (by norm_num)]

theorem scores_apply (b : Fin 6) (n : Fin 64) (h : Fin 2) (g : Fin 4) (r : Fin 128) (j : Fin 384) :
    scores x rb (ix6 b n h g r j) = Scalar.select (mask (ix3 n r j))
      (Ideal.div (∑ e, kwin x (ix5 b n j h e) * x (ix2 ⟨b.val * 8192 + (n.val * 128 + r.val), by omega⟩ ⟨h.val * 512 + g.val * 128 + e.val, by omega⟩))
        ((√128 : ℝ) : EReal) + bias rb (ix4 h g r j)) ⊥ := by
  pointwise [scores, rows, id_eq, sqrt128]
  exact congrArg (Scalar.select _ _ ·) ofBits_neg_inf

end Cert.Proof.RefRow

end
-- ==== Proof.Row.lean ====
/- A unit of the attention's kernel is the reference's rows. -/
module

public import proofs.«01_k».proof.Proof.Mask
public import proofs.«01_k».proof.Proof.RefWeights
public import proofs.«01_k».proof.Proof.RefBias
public import proofs.«01_k».proof.Proof.RefOut
public import proofs.«01_k».proof.Proof.RefWindow
public import proofs.«01_k».proof.Proof.RefScore

@[expose] public section

set_option maxRecDepth 16384

noncomputable section

namespace Cert.Proof.Row

open Idealize.ShloMosaic Idealize.ShloMosaic.TcCoe Idealize.SL.Sem
open Cert.KernelIdeal Cert.KernelIdeal.Gen

/-- A unit of the kernel whose operands are the blocks of one group of rows and one head leaves the rows of the reference. -/
theorem piece (x : FVec Ideal ReferenceIdeal.S49152x1536 .bf16) (rb : FVec Ideal ReferenceIdeal.S32x8 .f32)
    (sk : FVec Ideal ReferenceIdeal.S8 .f32)
    (hx : ∀ (R : Fin 49152) (C : Fin 1280), IsReal (x (ix2 R ⟨C.val, by omega⟩))) (hrb : ∀ l h, IsReal (rb (ix2 l h)))
    (hsk : ∀ h, IsReal (sk (ix1 h)))
    (i0 : Fin 6) (i1 : Fin 2) (i2 : Fin 4) (sb : Fin 16) (g : Fin 4)
    (kw vw : FVec Ideal S2304x128 .bf16) (q : Vec Ideal S1x128x128 .bf16) (b : Vec Ideal S1x128x384 .f32) (c : Vec Ideal S1x1x128 .f32)
    (h : S2304x128.Slices ![sb.val * 128, 0] S384x128)
    (hK : ∀ (R : Fin 2304) (e : Fin 128) (p : Fin 8192), p.val + 128 = i2.val * 2048 + R.val →
      kw (ix2 R e) = x (ix2 ⟨i0.val * 8192 + p.val, by omega⟩ ⟨1024 + (i1.val * 128 + e.val), by omega⟩))
    (hV : ∀ (R : Fin 2304) (e : Fin 128) (p : Fin 8192), p.val + 128 = i2.val * 2048 + R.val →
      vw (ix2 R e) = x (ix2 ⟨i0.val * 8192 + p.val, by omega⟩ ⟨1280 + (i1.val * 128 + e.val), by omega⟩))
    (hq : ∀ r e : Fin 128, q (ix3 0 r e) = x (ix2 ⟨i0.val * 8192 + (i2.val * 2048 + sb.val * 128 + r.val), by omega⟩ ⟨i1.val * 512 + g.val * 128 + e.val, by omega⟩))
    (hb : ∀ (r : Fin 128) (j : Fin 384) (l : Fin 32), (ReferenceIdeal.lit0 (ReferenceIdeal.S128x384.rowMajor (ix2 r j))).toNat = l.val →
      b (ix3 0 r j) = rb (ix2 l ⟨i1.val * 4 + g.val, by omega⟩))
    (hl : ∀ i, (ReferenceIdeal.lit0 i).toNat < 32)
    (hc : c (ix3 0 0 0) = sk (ix1 ⟨i1.val * 4 + g.val, by omega⟩)) (r d : Fin 128) :
    Unit.unit kw vw (Unit.valid (BitVec.ofNat 32 i2.val) (BitVec.ofNat 32 (sb.val * 128) - 128#32)) q b c (sb.val * 128) h (ix3 0 r d)
      = RefRow.out x rb sk (ix3 i0 ⟨i2.val * 2048 + sb.val * 128 + r.val, by omega⟩ ⟨i1.val * 512 + g.val * 128 + d.val, by omega⟩) := by
  have hm := fun j => Mask.same i2.val sb.val i2.isLt sb.isLt r j
  have hn : ∀ j : Fin 384, RefRow.mask (ix3 ⟨i2.val * 16 + sb.val, by omega⟩ r j) = 1#1 →
      ∃ p : Fin 8192, p.val + 128 = i2.val * 2048 + (sb.val * 128 + j.val) ∧ p.val + 128 = (i2.val * 16 + sb.val) * 128 + j.val := fun j hj => by
    obtain ⟨p, hp⟩ := Mask.row _ r j hj
    exact ⟨p, by dsimp only at hp; omega, hp⟩
  have eR : (⟨(i2.val * 2048 + sb.val * 128 + r.val) / 128, by omega⟩ : Fin 64) = ⟨i2.val * 16 + sb.val, by omega⟩ := Fin.ext (by dsimp only; omega)
  have er : (⟨(i2.val * 2048 + sb.val * 128 + r.val) % 128, by omega⟩ : Fin 128) = r := Fin.ext (by dsimp only; omega)
  have eh : (⟨(i1.val * 512 + g.val * 128 + d.val) / 512, by omega⟩ : Fin 2) = i1 := Fin.ext (by dsimp only; omega)
  have eg : (⟨(i1.val * 512 + g.val * 128 + d.val) / 128 % 4, by omega⟩ : Fin 4) = g := Fin.ext (by dsimp only; omega)
  have ec : (⟨(i1.val * 512 + g.val * 128 + d.val) / 128, by omega⟩ : Fin 8) = ⟨i1.val * 4 + g.val, by omega⟩ := Fin.ext (by dsimp only; omega)
  have ed : (⟨(i1.val * 512 + g.val * 128 + d.val) % 128, by omega⟩ : Fin 128) = d := Fin.ext (by dsimp only; omega)
  rw [RefRow.out_apply]
  simp only [eR, er, eh, eg, ec, ed]
  have hbl : ∀ j, b (ix3 0 r j) = RefRow.bias rb (ix4 i1 g r j) := fun j => by
    rw [RefRow.bias_apply rb i1 g r j ⟨_, hl (ReferenceIdeal.S128x384.rowMajor (ix2 r j))⟩ rfl]
    exact hb r j _ rfl
  rw [Unit.unit_row kw vw _ q b c _ h (by omega) r d
    (fun j e => RefRow.kwin x (ix5 i0 ⟨i2.val * 16 + sb.val, by omega⟩ j i1 e))
    (fun j => RefRow.vwin x (ix5 i0 ⟨i2.val * 16 + sb.val, by omega⟩ j i1 d)) ?_ ?_ ?_ ?_ ?_]
  · rw [hc]
    congr 1
    funext j
    rw [RefRow.scores_apply, hm, hbl]
    unfold Unit.refScore
    refine congrArg (fun z => Scalar.select _ (Ideal.div z _ + _) _) (Finset.sum_congr rfl fun e _ => ?_)
    beta_reduce
    rw [hq]
    refine congrArg (HMul.hMul (α := EReal) (β := EReal) (γ := EReal) _) (congrArg x ?_)
    refine congrArg₂ ix2 (Fin.ext ?_) rfl
    dsimp only; omega
  · intro j hj e
    rw [hm] at hj
    obtain ⟨p, h1, h2⟩ := hn j hj
    have ek := RefRow.kwin_apply x i0 ⟨i2.val * 16 + sb.val, by omega⟩ j i1 e p h2
    rw [ek]
    exact ⟨hK _ e p h1, hx _ ⟨1024 + (i1.val * 128 + e.val), by omega⟩⟩
  · intro j hj
    rw [hm] at hj
    obtain ⟨p, h1, h2⟩ := hn j hj
    rw [RefRow.vwin_apply x i0 ⟨i2.val * 16 + sb.val, by omega⟩ j i1 d p h2]
    exact hV _ d p h1
  · intro e
    rw [hq]
    exact hx _ ⟨i1.val * 512 + g.val * 128 + e.val, by omega⟩
  · intro j
    rw [hb r j ⟨_, hl (ReferenceIdeal.S128x384.rowMajor (ix2 r j))⟩ rfl]
    exact hrb _ _
  · rw [hc]
    exact hsk _

end Cert.Proof.Row

end
-- ==== Proof.Pieces.lean ====
/- What the attention's kernel leaves in a block. -/
module

public import proofs.«01_k».proof.Proof.Gen.KernelIdeal.Value
public import proofs.«01_k».proof.Proof.Unit
public import Idealize.ShloMosaic.Lib.Pipeline.ReadBack
public import Idealize.ShloMosaic.Lib.Pipeline.ValueKit
public import Idealize.ShloMosaic.Lib.Pointwise

@[expose] public section

set_option maxRecDepth 100000

noncomputable section

namespace Cert.Proof.Pieces

open Idealize.ShloMosaic Idealize.ShloMosaic.TcCoe Idealize.SL.Sem
open Cert.KernelIdeal Cert.KernelIdeal.Gen

variable (m : (ℓ : Loc nD τ sig) → Buf (Elt Ideal) ℓ)

set_option maxHeartbeats 40000000 in
/-- A block of the result is its sixty-four units side by side: sixteen groups of rows, four heads. -/
theorem block (c : Dev nD) (t : Fin cfg0.N) (G : S1x2048x512.Idx → EReal)
    (hG : ∀ (sb g : ℕ) (b : BitVec 32) (hs : S2304x128.Slices ![sb * 128, 0] S384x128)
      (hq : ∀ a : Fin S1x2048x512.rank, (![0, sb * 128, g * 128] : Fin 3 → ℕ) a + (![1, 128, 128] : Fin 3 → ℕ) a ≤ S1x2048x512.size a)
      (hb : ∀ a : Fin S4x128x384.rank, (![g, 0, 0] : Fin 3 → ℕ) a + (![1, 128, 384] : Fin 3 → ℕ) a ≤ S4x128x384.size a)
      (hc : ∀ a : Fin S4x1x128.rank, (![g, 0, 0] : Fin 3 → ℕ) a + (![1, 1, 128] : Fin 3 → ℕ) a ≤ S4x1x128.size a)
      (x : S1x128x128.Idx) (y : S1x2048x512.Idx), sb < 16 → g < 4 → b = BitVec.ofNat 32 (sb * 128) - 128#32 →
      (y 1).val = sb * 128 + (x 1).val → (y 2).val = g * 128 + (x 2).val →
      Unit.unit (k0_pay3 (iblk m c 1 t) (iblk m c 2 t) (iblk m c 3 t)) (k0_pay4 (iblk m c 4 t) (iblk m c 5 t) (iblk m c 6 t))
        (Unit.valid (BitVec.ofNat 32 (grid0.coords t 2).val) b)
        (View.ld (iblk m c 0 t) (Rect.unit ![0, sb * 128, g * 128] ![1, 128, 128] hq))
        (View.ld (iblk m c 7 t) (Rect.unit ![g, 0, 0] ![1, 128, 384] hb))
        (View.ld (iblk m c 8 t) (Rect.unit ![g, 0, 0] ![1, 1, 128] hc)) (sb * 128) hs x = G y)
    (y : S1x2048x512.Idx) : outsAt0 m c t y = G y := by
  have e4 : ∀ (h : (ms0_4 t).IsWhole) inb, View.ld (View.read (Elt Ideal) (ms0_4 t).view (h.unread (iblk m c 4 t)))
      (Rect.unit ![0, 0, 0] ![1, 128, 128] inb) = iblk m c 4 t := fun h inb => by
    rw [Memref.IsWhole.read_unread]
    exact View.ld_unit_lit' inb _ (by decide)
  have e5 : ∀ (h : (ms0_5 t).IsWhole) inb, View.ld (View.read (Elt Ideal) (ms0_5 t).view (h.unread (iblk m c 5 t)))
      (Rect.unit ![0, 0, 0] ![1, 2048, 128] inb) = iblk m c 5 t := fun h inb => by
    rw [Memref.IsWhole.read_unread]
    exact View.ld_unit_lit' inb _ (by decide)
  have e6 : ∀ (h : (ms0_6 t).IsWhole) inb, View.ld (View.read (Elt Ideal) (ms0_6 t).view (h.unread (iblk m c 6 t)))
      (Rect.unit ![0, 0, 0] ![1, 128, 128] inb) = iblk m c 6 t := fun h inb => by
    rw [Memref.IsWhole.read_unread]
    exact View.ld_unit_lit' inb _ (by decide)
  unfold outsAt0
  frame_open
  simp (disch := decide) only [↓ View.readCov_skip, ↓ View.readCov_cons_toLoadRect, ↓ View.readCov_fill]
  frame_out
  canon_tiles x h
  · try rw [e4, e5, e6]
    exact hG 15 3 1792#32 (by decide) (by decide) (by decide) (by decide) x y (by decide) (by decide) (by decide) (by omega) (by omega)
  · try rw [e4, e5, e6]
    exact hG 15 2 1792#32 (by decide) (by decide) (by decide) (by decide) x y (by decide) (by decide) (by decide) (by omega) (by omega)
  · try rw [e4, e5, e6]
    exact hG 15 1 1792#32 (by decide) (by decide) (by decide) (by decide) x y (by decide) (by decide) (by decide) (by omega) (by omega)
  · try rw [e4, e5, e6]
    exact hG 15 0 1792#32 (by decide) (by decide) (by decide) (by decide) x y (by decide) (by decide) (by decide) (by omega) (by omega)
  · try rw [e4, e5, e6]
    exact hG 14 3 1664#32 (by decide) (by decide) (by decide) (by decide) x y (by decide) (by decide) (by decide) (by omega) (by omega)
  · try rw [e4, e5, e6]
    exact hG 14 2 1664#32 (by decide) (by decide) (by decide) (by decide) x y (by decide) (by decide) (by decide) (by omega) (by omega)
  · try rw [e4, e5, e6]
    exact hG 14 1 1664#32 (by decide) (by decide) (by decide) (by decide) x y (by decide) (by decide) (by decide) (by omega) (by omega)
  · try rw [e4, e5, e6]
    exact hG 14 0 1664#32 (by decide) (by decide) (by decide) (by decide) x y (by decide) (by decide) (by decide) (by omega) (by omega)
  · try rw [e4, e5, e6]
    exact hG 13 3 1536#32 (by decide) (by decide) (by decide) (by decide) x y (by decide) (by decide) (by decide) (by omega) (by omega)
  · try rw [e4, e5, e6]
    exact hG 13 2 1536#32 (by decide) (by decide) (by decide) (by decide) x y (by decide) (by decide) (by decide) (by omega) (by omega)
  · try rw [e4, e5, e6]
    exact hG 13 1 1536#32 (by decide) (by decide) (by decide) (by decide) x y (by decide) (by decide) (by decide) (by omega) (by omega)
  · try rw [e4, e5, e6]
    exact hG 13 0 1536#32 (by decide) (by decide) (by decide) (by decide) x y (by decide) (by decide) (by decide) (by omega) (by omega)
  · try rw [e4, e5, e6]
    exact hG 12 3 1408#32 (by decide) (by decide) (by decide) (by decide) x y (by decide) (by decide) (by decide) (by omega) (by omega)
  · try rw [e4, e5, e6]
    exact hG 12 2 1408#32 (by decide) (by decide) (by decide) (by decide) x y (by decide) (by decide) (by decide) (by omega) (by omega)
  · try rw [e4, e5, e6]
    exact hG 12 1 1408#32 (by decide) (by decide) (by decide) (by decide) x y (by decide) (by decide) (by decide) (by omega) (by omega)
  · try rw [e4, e5, e6]
    exact hG 12 0 1408#32 (by decide) (by decide) (by decide) (by decide) x y (by decide) (by decide) (by decide) (by omega) (by omega)
  · try rw [e4, e5, e6]
    exact hG 11 3 1280#32 (by decide) (by decide) (by decide) (by decide) x y (by decide) (by decide) (by decide) (by omega) (by omega)
  · try rw [e4, e5, e6]
    exact hG 11 2 1280#32 (by decide) (by decide) (by decide) (by decide) x y (by decide) (by decide) (by decide) (by omega) (by omega)
  · try rw [e4, e5, e6]
    exact hG 11 1 1280#32 (by decide) (by decide) (by decide) (by decide) x y (by decide) (by decide) (by decide) (by omega) (by omega)
  · try rw [e4, e5, e6]
    exact hG 11 0 1280#32 (by decide) (by decide) (by decide) (by decide) x y (by decide) (by decide) (by decide) (by omega) (by omega)
  · try rw [e4, e5, e6]
    exact hG 10 3 1152#32 (by decide) (by decide) (by decide) (by decide) x y (by decide) (by decide) (by decide) (by omega) (by omega)
  · try rw [e4, e5, e6]
    exact hG 10 2 1152#32 (by decide) (by decide) (by decide) (by decide) x y (by decide) (by decide) (by decide) (by omega) (by omega)
  · try rw [e4, e5, e6]
    exact hG 10 1 1152#32 (by decide) (by decide) (by decide) (by decide) x y (by decide) (by decide) (by decide) (by omega) (by omega)
  · try rw [e4, e5, e6]
    exact hG 10 0 1152#32 (by decide) (by decide) (by decide) (by decide) x y (by decide) (by decide) (by decide) (by omega) (by omega)
  · try rw [e4, e5, e6]
    exact hG 9 3 1024#32 (by decide) (by decide) (by decide) (by decide) x y (by decide) (by decide) (by decide) (by omega) (by omega)
  · try rw [e4, e5, e6]
    exact hG 9 2 1024#32 (by decide) (by decide) (by decide) (by decide) x y (by decide) (by decide) (by decide) (by omega) (by omega)
  · try rw [e4, e5, e6]
    exact hG 9 1 1024#32 (by decide) (by decide) (by decide) (by decide) x y (by decide) (by decide) (by decide) (by omega) (by omega)
  · try rw [e4, e5, e6]
    exact hG 9 0 1024#32 (by decide) (by decide) (by decide) (by decide) x y (by decide) (by decide) (by decide) (by omega) (by omega)
  · try rw [e4, e5, e6]
    exact hG 8 3 896#32 (by decide) (by decide) (by decide) (by decide) x y (by decide) (by decide) (by decide) (by omega) (by omega)
  · try rw [e4, e5, e6]
    exact hG 8 2 896#32 (by decide) (by decide) (by decide) (by decide) x y (by decide) (by decide) (by decide) (by omega) (by omega)
  · try rw [e4, e5, e6]
    exact hG 8 1 896#32 (by decide) (by decide) (by decide) (by decide) x y (by decide) (by decide) (by decide) (by omega) (by omega)
  · try rw [e4, e5, e6]
    exact hG 8 0 896#32 (by decide) (by decide) (by decide) (by decide) x y (by decide) (by decide) (by decide) (by omega) (by omega)
  · try rw [e4, e5, e6]
    exact hG 7 3 768#32 (by decide) (by decide) (by decide) (by decide) x y (by decide) (by decide) (by decide) (by omega) (by omega)
  · try rw [e4, e5, e6]
    exact hG 7 2 768#32 (by decide) (by decide) (by decide) (by decide) x y (by decide) (by decide) (by decide) (by omega) (by omega)
  · try rw [e4, e5, e6]
    exact hG 7 1 768#32 (by decide) (by decide) (by decide) (by decide) x y (by decide) (by decide) (by decide) (by omega) (by omega)
  · try rw [e4, e5, e6]
    exact hG 7 0 768#32 (by decide) (by decide) (by decide) (by decide) x y (by decide) (by decide) (by decide) (by omega) (by omega)
  · try rw [e4, e5, e6]
    exact hG 6 3 640#32 (by decide) (by decide) (by decide) (by decide) x y (by decide) (by decide) (by decide) (by omega) (by omega)
  · try rw [e4, e5, e6]
    exact hG 6 2 640#32 (by decide) (by decide) (by decide) (by decide) x y (by decide) (by decide) (by decide) (by omega) (by omega)
  · try rw [e4, e5, e6]
    exact hG 6 1 640#32 (by decide) (by decide) (by decide) (by decide) x y (by decide) (by decide) (by decide) (by omega) (by omega)
  · try rw [e4, e5, e6]
    exact hG 6 0 640#32 (by decide) (by decide) (by decide) (by decide) x y (by decide) (by decide) (by decide) (by omega) (by omega)
  · try rw [e4, e5, e6]
    exact hG 5 3 512#32 (by decide) (by decide) (by decide) (by decide) x y (by decide) (by decide) (by decide) (by omega) (by omega)
  · try rw [e4, e5, e6]
    exact hG 5 2 512#32 (by decide) (by decide) (by decide) (by decide) x y (by decide) (by decide) (by decide) (by omega) (by omega)
  · try rw [e4, e5, e6]
    exact hG 5 1 512#32 (by decide) (by decide) (by decide) (by decide) x y (by decide) (by decide) (by decide) (by omega) (by omega)
  · try rw [e4, e5, e6]
    exact hG 5 0 512#32 (by decide) (by decide) (by decide) (by decide) x y (by decide) (by decide) (by decide) (by omega) (by omega)
  · try rw [e4, e5, e6]
    exact hG 4 3 384#32 (by decide) (by decide) (by decide) (by decide) x y (by decide) (by decide) (by decide) (by omega) (by omega)
  · try rw [e4, e5, e6]
    exact hG 4 2 384#32 (by decide) (by decide) (by decide) (by decide) x y (by decide) (by decide) (by decide) (by omega) (by omega)
  · try rw [e4, e5, e6]
    exact hG 4 1 384#32 (by decide) (by decide) (by decide) (by decide) x y (by decide) (by decide) (by decide) (by omega) (by omega)
  · try rw [e4, e5, e6]
    exact hG 4 0 384#32 (by decide) (by decide) (by decide) (by decide) x y (by decide) (by decide) (by decide) (by omega) (by omega)
  · try rw [e4, e5, e6]
    exact hG 3 3 256#32 (by decide) (by decide) (by decide) (by decide) x y (by decide) (by decide) (by decide) (by omega) (by omega)
  · try rw [e4, e5, e6]
    exact hG 3 2 256#32 (by decide) (by decide) (by decide) (by decide) x y (by decide) (by decide) (by decide) (by omega) (by omega)
  · try rw [e4, e5, e6]
    exact hG 3 1 256#32 (by decide) (by decide) (by decide) (by decide) x y (by decide) (by decide) (by decide) (by omega) (by omega)
  · try rw [e4, e5, e6]
    exact hG 3 0 256#32 (by decide) (by decide) (by decide) (by decide) x y (by decide) (by decide) (by decide) (by omega) (by omega)
  · try rw [e4, e5, e6]
    exact hG 2 3 128#32 (by decide) (by decide) (by decide) (by decide) x y (by decide) (by decide) (by decide) (by omega) (by omega)
  · try rw [e4, e5, e6]
    exact hG 2 2 128#32 (by decide) (by decide) (by decide) (by decide) x y (by decide) (by decide) (by decide) (by omega) (by omega)
  · try rw [e4, e5, e6]
    exact hG 2 1 128#32 (by decide) (by decide) (by decide) (by decide) x y (by decide) (by decide) (by decide) (by omega) (by omega)
  · try rw [e4, e5, e6]
    exact hG 2 0 128#32 (by decide) (by decide) (by decide) (by decide) x y (by decide) (by decide) (by decide) (by omega) (by omega)
  · try rw [e4, e5, e6]
    exact hG 1 3 0#32 (by decide) (by decide) (by decide) (by decide) x y (by decide) (by decide) (by decide) (by omega) (by omega)
  · try rw [e4, e5, e6]
    exact hG 1 2 0#32 (by decide) (by decide) (by decide) (by decide) x y (by decide) (by decide) (by decide) (by omega) (by omega)
  · try rw [e4, e5, e6]
    exact hG 1 1 0#32 (by decide) (by decide) (by decide) (by decide) x y (by decide) (by decide) (by decide) (by omega) (by omega)
  · try rw [e4, e5, e6]
    exact hG 1 0 0#32 (by decide) (by decide) (by decide) (by decide) x y (by decide) (by decide) (by decide) (by omega) (by omega)
  · try rw [e4, e5, e6]
    exact hG 0 3 4294967168#32 (by decide) (by decide) (by decide) (by decide) x y (by decide) (by decide) (by decide) (by omega) (by omega)
  · try rw [e4, e5, e6]
    exact hG 0 2 4294967168#32 (by decide) (by decide) (by decide) (by decide) x y (by decide) (by decide) (by decide) (by omega) (by omega)
  · try rw [e4, e5, e6]
    exact hG 0 1 4294967168#32 (by decide) (by decide) (by decide) (by decide) x y (by decide) (by decide) (by decide) (by omega) (by omega)
  · try rw [e4, e5, e6]
    exact hG 0 0 4294967168#32 (by decide) (by decide) (by decide) (by decide) x y (by decide) (by decide) (by decide) (by omega) (by omega)

end Cert.Proof.Pieces

end
-- ==== Proof.Attention.lean ====
/- The attention: what its kernel leaves is the reference's result. -/
module

public import proofs.«01_k».proof.Defs
public import proofs.«01_k».proof.Proof.Gen.KernelIdeal
public import proofs.«01_k».proof.Proof.Gen.ReferenceIdeal
public import proofs.«01_k».proof.Proof.Gen.Pre_finite_logits
public import proofs.«01_k».proof.Proof.Blocks
public import proofs.«01_k».proof.Proof.Row
public import proofs.«01_k».proof.Proof.Pieces

@[expose] public section

set_option maxRecDepth 16384

noncomputable section

namespace Cert.Proof.Attention

open Idealize.ShloMosaic Idealize.ShloMosaic.TcCoe Idealize.SL.Sem
open Cert.KernelIdeal Cert.KernelIdeal.Gen

variable (m : (ℓ : Loc nD τ sig) → Buf (Elt Ideal) ℓ)

/-- The kernel's result is the reference's. -/
theorem out9 (c : Dev nD) (hx : ∀ (R : Fin 49152) (C : Fin 1280), IsReal (m ((c : Thread nD τ).loc main_arg0) (ix2 R ⟨C.val, by omega⟩)))
    (hrb : ∀ (l : Fin 32) (h : Fin 8), IsReal (m ((c : Thread nD τ).loc main_arg1) (ix2 l h)))
    (hsk : ∀ h : Fin 8, IsReal (m ((c : Thread nD τ).loc main_arg2) (ix1 h))) :
    (dats (F := Ideal) m 0 c).arrAt 9 cfg0.N
    = RefRow.out (m ((c : Thread nD τ).loc main_arg0)) (m ((c : Thread nD τ).loc main_arg1)) (m ((c : Thread nD τ).loc main_arg2)) := by
  refine (dats m 0 c).arrAt_eq_of_covers 9 _ (by decide +kernel) fun t hf y => ?_
  have h0 : (grid0.coords t 0).val < 6 := (grid0.coords t 0).isLt
  have h1 : (grid0.coords t 1).val < 2 := (grid0.coords t 1).isLt
  have h2 : (grid0.coords t 2).val < 4 := (grid0.coords t 2).isLt
  have hy : ∀ y : S1x2048x512.Idx, ((cfg0.win 9).blk t).view.emb y = ix3 ⟨(grid0.coords t 0).val, h0⟩
      ⟨(grid0.coords t 2).val * 2048 + (y 1).val, by have : (y 1).val < 2048 := (y 1).isLt; omega⟩
      ⟨(grid0.coords t 1).val * 512 + (y 2).val, by have : (y 2).val < 512 := (y 2).isLt; omega⟩ := fun y => by
    obtain ⟨e0, e1, e2, e3, e4, e5, e6, e7, e8, e9⟩ := Blocks.idx t
    have : (y 0).val < 1 := (y 0).isLt
    blk_ext [e9]
  refine Eq.trans ?_ (congrArg (RefRow.out (m ((c : Thread nD τ).loc main_arg0)) (m ((c : Thread nD τ).loc main_arg1)) (m ((c : Thread nD τ).loc main_arg2))) (hy y)).symm
  blk_simp
  rw [after0_9]
  refine Pieces.block m c t (fun y => RefRow.out (m ((c : Thread nD τ).loc main_arg0)) (m ((c : Thread nD τ).loc main_arg1)) (m ((c : Thread nD τ).loc main_arg2))
    (ix3 ⟨(grid0.coords t 0).val, h0⟩ ⟨(grid0.coords t 2).val * 2048 + (y 1).val, by have : (y 1).val < 2048 := (y 1).isLt; omega⟩
      ⟨(grid0.coords t 1).val * 512 + (y 2).val, by have : (y 2).val < 512 := (y 2).isLt; omega⟩)) ?_ y
  intro sb g b hs hq hb hc x y hsb hg hbv hy1 hy2
  subst hbv
  have ex : x = ix3 0 (x 1) (x 2) := by
    funext a
    match a with
    | ⟨0, _⟩ => exact Fin.ext (Nat.lt_one_iff.mp (x 0).isLt)
    | ⟨1, _⟩ => rfl
    | ⟨2, _⟩ => rfl
  have hx1 : (x 1).val < 128 := (x 1).isLt
  have hx2 : (x 2).val < 128 := (x 2).isLt
  refine (congrArg _ ex).trans ((Row.piece _ _ _ hx hrb hsk ⟨_, h0⟩ ⟨_, h1⟩ ⟨_, h2⟩ ⟨sb, hsb⟩ ⟨g, hg⟩ _ _ _ _ _ hs
    (Blocks.key_read m c t) (Blocks.value_read m c t) ?_ ?_ Table.lt ?_ (x 1) (x 2)).trans ?_)
  · intro r e
    refine (congrArg (iblk m c 0 t) (?_ : _ = ix3 0 ⟨sb * 128 + r.val, by omega⟩ ⟨g * 128 + e.val, by omega⟩)).trans ((Blocks.q_read m c t _ _).trans (congrArg _ (congrArg₂ ix2 (Fin.ext ?_) (Fin.ext ?_))))
    · funext a
      match a with
      | ⟨0, _⟩ => rfl
      | ⟨1, _⟩ => exact Fin.ext (by simp [Rect.unit])
      | ⟨2, _⟩ => exact Fin.ext (by simp [Rect.unit])
    · dsimp only; omega
    · dsimp only; omega
  · intro r j l hl
    refine (congrArg (iblk m c 7 t) (?_ : _ = ix3 ⟨g, hg⟩ r j)).trans (Blocks.bias_read m c t ⟨g, hg⟩ r j l hl)
    funext a
    match a with
    | ⟨0, _⟩ => exact Fin.ext (by simp [Rect.unit])
    | ⟨1, _⟩ => exact Fin.ext (by simp [Rect.unit])
    | ⟨2, _⟩ => exact Fin.ext (by simp [Rect.unit])
  · refine (congrArg (iblk m c 8 t) (?_ : _ = ix3 ⟨g, hg⟩ 0 0)).trans (Blocks.sink_read m c t ⟨g, hg⟩ 0)
    funext a
    match a with
    | ⟨0, _⟩ => exact Fin.ext (by simp [Rect.unit])
    | ⟨1, _⟩ => rfl
    | ⟨2, _⟩ => rfl
  · refine congrArg _ (congrArg₂ (ix3 ⟨_, h0⟩) (Fin.ext ?_) (Fin.ext ?_))
    · dsimp only; omega
    · dsimp only; omega

theorem algebraic : Cert.algebraic_KernelIdeal_ReferenceIdeal_pre_finite_logits (hKernelIdeal := Cert.KernelIdeal.Gen.facts)
    (hReferenceIdeal := Cert.ReferenceIdeal.Gen.facts) (hPre_finite_logits := Cert.Pre_finite_logits.Gen.facts) := by
  intro m g m' g' hp hm
  have hx : ∀ (c : Dev nD) (R : Fin 49152) (C : Fin 1280), IsReal (m ((c : Thread nD τ).loc main_arg0) (ix2 R ⟨C.val, by omega⟩)) := fun c R C => by
    have h := congrFun (hp c).1 (ix2 R C)
    unfold Cert.Pre_finite_logits.fn at h
    pointwise at h
    exact IsReal.of_cmp h
  have hrb : ∀ (c : Dev nD) (l : Fin 32) (h : Fin 8), IsReal (m ((c : Thread nD τ).loc main_arg1) (ix2 l h)) := fun c l e => by
    have h := congrFun (hp c).2.1 (ix2 l e)
    unfold Cert.Pre_finite_logits.fn at h
    pointwise at h
    exact IsReal.of_cmp h
  have hsk : ∀ (c : Dev nD) (h : Fin 8), IsReal (m ((c : Thread nD τ).loc main_arg2) (ix1 h)) := fun c e => by
    have h := congrFun (hp c).2.2 (ix1 e)
    unfold Cert.Pre_finite_logits.fn at h
    pointwise at h
    exact IsReal.of_cmp h
  refine ⟨_, Cert.KernelIdeal.Value.run_blocks m g,
    (θ_run _ _ _).mono (fun r h c => ⟨?_, (h c).2⟩) (Cert.ReferenceIdeal.Value.run m' g')⟩
  rw [out9 m c (hx c) (hrb c) (hsk c)]
  refine (h c).1.trans ((RefRow.out_eq m' c).trans ?_)
  rw [(hm c).1, (hm c).2.1, (hm c).2.2]

end Cert.Proof.Attention

end
-- ==== Proof.Frames.lean ====
/-
  The calls run to their end and leave their arguments and every counter as they found them: of each kernel and its
  idealization the generated frame, of each reference its generated run, which uses no counter. The attention's named
  constants have the values the certificate's table gives them.
-/
module

public import proofs.«01_k».proof.Defs
public import proofs.«01_k».proof.Proof.Gen.Kernel.Frame
public import proofs.«01_k».proof.Proof.Gen.KernelIdeal.Frame
public import proofs.«01_k».proof.Proof.Gen.Inproj.Frame
public import proofs.«01_k».proof.Proof.Gen.InprojIdeal.Frame
public import proofs.«01_k».proof.Proof.Gen.Outproj.Frame
public import proofs.«01_k».proof.Proof.Gen.OutprojIdeal.Frame
public import proofs.«01_k».proof.Proof.Gen.Experts.Frame
public import proofs.«01_k».proof.Proof.Gen.ExpertsIdeal.Frame
public import proofs.«01_k».proof.Proof.Gen.ReferenceIdeal.Run
public import proofs.«01_k».proof.Proof.Gen.ReferenceInprojIdeal.Run
public import proofs.«01_k».proof.Proof.Gen.ReferenceOutprojIdeal.Run
public import proofs.«01_k».proof.Proof.Gen.ReferenceExpertsIdeal.Run
public import Idealize.ShloMosaic.Lib.Quiescent

@[expose] public section

noncomputable section

open Idealize.ShloMosaic Idealize.ShloMosaic.TcCoe Idealize.SL.Sem

namespace Cert.Proof.Frames

theorem kernel : Cert.quiescent_Kernel := fun m ρ _ => Cert.Kernel.Gen.frame m ρ
theorem kernelIdeal : Cert.quiescent_KernelIdeal := fun m ρ _ => Cert.KernelIdeal.Gen.frame m ρ
theorem inproj : Cert.quiescent_Inproj := fun m ρ _ => Cert.Inproj.Gen.frame m ρ
theorem inprojIdeal : Cert.quiescent_InprojIdeal := fun m ρ _ => Cert.InprojIdeal.Gen.frame m ρ
theorem outproj : Cert.quiescent_Outproj := fun m ρ _ => Cert.Outproj.Gen.frame m ρ
theorem outprojIdeal : Cert.quiescent_OutprojIdeal := fun m ρ _ => Cert.OutprojIdeal.Gen.frame m ρ
theorem experts : Cert.quiescent_Experts := fun m ρ _ => Cert.Experts.Gen.frame m ρ
theorem expertsIdeal : Cert.quiescent_ExpertsIdeal := fun m ρ _ => Cert.ExpertsIdeal.Gen.frame m ρ

theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem referenceInprojIdeal : Cert.quiescent_ReferenceInprojIdeal := fun m ρ _ =>
  (θ_run Cert.ReferenceInprojIdeal.defs _ _).mono (fun r h => ⟨fun c => (h c).2.2, sem_eq_zero_of_no_sems (by decide) r.2⟩)
    (Cert.ReferenceInprojIdeal.Value.run (F := Ideal) m ρ)

theorem referenceOutprojIdeal : Cert.quiescent_ReferenceOutprojIdeal := fun m ρ _ =>
  (θ_run Cert.ReferenceOutprojIdeal.defs _ _).mono (fun r h => ⟨fun c => (h c).2.2.2, sem_eq_zero_of_no_sems (by decide) r.2⟩)
    (Cert.ReferenceOutprojIdeal.Value.run (F := Ideal) m ρ)

theorem referenceExpertsIdeal : Cert.quiescent_ReferenceExpertsIdeal := fun m ρ _ =>
  (θ_run Cert.ReferenceExpertsIdeal.defs _ _).mono (fun r h => ⟨fun c => (h c).2, sem_eq_zero_of_no_sems (by decide) r.2⟩)
    (Cert.ReferenceExpertsIdeal.Value.run (F := Ideal) m ρ)

/-- The attention's named constants: the logarithm's base change, the same times the scale of the scores, and the mask, which
    is `⊥`. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale_log2e" .f32 0x3E0293EE#32 (((Real.sqrt 128)⁻¹ * (Real.log 2)⁻¹ : ℝ) : EReal) rfl,
    IdealRules.named_const.statement Cert.KernelIdeal.κ "mask" .f32 0xF149F2CA#32 ⊥ rfl⟩

end Cert.Proof.Frames

end
-- ==== Proof.Inproj.lean ====
/- The input projection: the run of the kernel and the run of the reference, element by element. -/
module

public import proofs.«01_k».proof.Defs
public import proofs.«01_k».proof.Proof.Gen.InprojIdeal.Value
public import proofs.«01_k».proof.Proof.Gen.ReferenceInprojIdeal.Read
public import Idealize.ShloMosaic.Lib.Pipeline.ValueKit
public import Idealize.ShloMosaic.Lib.Pointwise

@[expose] public section

set_option maxRecDepth 16384

noncomputable section

namespace Cert.Proof.Inproj

open Idealize.ShloMosaic Idealize.ShloMosaic.TcCoe Idealize.SL.Sem
open Cert.InprojIdeal Cert.InprojIdeal.Gen

variable (m : (ℓ : Loc nD τ sig) → Buf (Elt Ideal) ℓ)

theorem idx (t : Fin cfg0.N) : win0_0.index t = ![(grid0.coords t 0).val, 0] ∧ win0_1.index t = ![0, 0]
    ∧ win0_2.index t = ![1, 0, 0] ∧ win0_3.index t = ![(grid0.coords t 0).val, 0] ∧ win0_4.index t = ![(grid0.coords t 0).val, 0] :=
  (by decide +kernel : ∀ t : Fin grid0.N, win0_0.index t = ![(grid0.coords t 0).val, 0] ∧ win0_1.index t = ![0, 0]
    ∧ win0_2.index t = ![1, 0, 0] ∧ win0_3.index t = ![(grid0.coords t 0).val, 0] ∧ win0_4.index t = ![(grid0.coords t 0).val, 0]) t

open Cert.ReferenceInprojIdeal.Read in
/-- The first result of the kernel is the reference's. -/
theorem out3 (c : Dev nD) : (dats (F := Ideal) m 0 c).arrAt 3 cfg0.N
    = val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨e0, e1, e2, e3, e4⟩ := idx t
  pointwise [k0_pay2, k0_pay1, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1]
  blk_point [iblk, V, e0, e1, e2, e3]

open Cert.ReferenceInprojIdeal.Read in
/-- The second result of the kernel is the reference's. -/
theorem out4 (c : Dev nD) : (dats (F := Ideal) m 0 c).arrAt 4 cfg0.N
    = val_main_v20 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  obtain ⟨e0, e1, e2, e3, e4⟩ := idx t
  pointwise [k0_pay3, k0_pay1, val_main_v20, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1]
  blk_point [iblk, V, e0, e1, e2, e4]

/-- From memories that agree on the arguments, the kernel and the reference end with equal results. -/
theorem algebraic : Cert.algebraic_InprojIdeal_ReferenceInprojIdeal (hInprojIdeal := Cert.InprojIdeal.Gen.facts)
    (hReferenceInprojIdeal := Cert.ReferenceInprojIdeal.Gen.facts) := by
  intro m g m' g' _ hm
  refine ⟨_, _, Cert.InprojIdeal.Value.run_blocks m g,
    (θ_run _ _ _).mono (fun r h c => ⟨?_, ?_, (h c).2.2⟩) (Cert.ReferenceInprojIdeal.Value.run m' g')⟩
  · rw [out3]
    refine (h c).1.trans ?_
    rw [(hm c).1, (hm c).2.1, (hm c).2.2]
    exact Cert.ReferenceInprojIdeal.Read.val_main_v19_eq _ _ _
  · rw [out4]
    refine (h c).2.1.trans ?_
    rw [(hm c).1, (hm c).2.1, (hm c).2.2]
    exact Cert.ReferenceInprojIdeal.Read.val_main_v20_eq _ _ _

end Cert.Proof.Inproj

end
-- ==== Proof.Outproj.lean ====
/- The output projection and the router: the run of the kernel and the run of the reference, element by element. -/
module

public import proofs.«01_k».proof.Defs
public import proofs.«01_k».proof.Proof.Gen.OutprojIdeal.Value
public import proofs.«01_k».proof.Proof.Gen.ReferenceOutprojIdeal.Read
public import Idealize.ShloMosaic.Lib.Pipeline.ValueKit
public import Idealize.ShloMosaic.Lib.Pointwise
public import proofs.«01_k».proof.Proof.Gen.Pre_finite_router
public import proofs.«01_k».proof.Proof.Reals

@[expose] public section

set_option maxRecDepth 16384

noncomputable section

namespace Cert.Proof.Outproj

open Idealize.ShloMosaic Idealize.ShloMosaic.TcCoe Idealize.SL.Sem
open Cert.OutprojIdeal Cert.OutprojIdeal.Gen

variable (m : (ℓ : Loc nD τ sig) → Buf (Elt Ideal) ℓ)

theorem idx (t : Fin cfg0.N) : win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0] ∧ win0_5.index t = ![1, 0, 0]
    ∧ win0_6.index t = ![0, 0] ∧ win0_7.index t = ![0, 0] ∧ win0_8.index t = ![(grid0.coords t 0).val, 0]
    ∧ win0_9.index t = ![(grid0.coords t 0).val, 0] ∧ win0_10.index t = ![0, (grid0.coords t 0).val] :=
  (by decide +kernel : ∀ t : Fin grid0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0] ∧ win0_5.index t = ![1, 0, 0]
    ∧ win0_6.index t = ![0, 0] ∧ win0_7.index t = ![0, 0] ∧ win0_8.index t = ![(grid0.coords t 0).val, 0]
    ∧ win0_9.index t = ![(grid0.coords t 0).val, 0] ∧ win0_10.index t = ![0, (grid0.coords t 0).val]) t

/-- The row of the arrays that row `r` of the `t`th block is. -/
def row (t : Fin cfg0.N) (r : Fin 512) : Fin 49152 :=
  ⟨(grid0.coords t 0).val * 512 + r.val, by have h : (grid0.coords t 0).val < 96 := (grid0.coords t 0).isLt; omega⟩

/-- The `t`th block of the residual sum. -/
abbrev sumBlk (c : Dev nD) (t : Fin cfg0.N) : FVec Ideal S512x2048 .f32 :=
  k0_pay5 (F := Ideal) (k0_pay10 (iblk m c 0 t) (iblk m c 1 t) (iblk m c 2 t) (iblk m c 3 t) (iblk m c 4 t) (iblk m c 5 t) (iblk m c 6 t) (iblk m c 7 t))
    (k0_pay11 (iblk m c 0 t) (iblk m c 1 t) (iblk m c 2 t) (iblk m c 3 t) (iblk m c 4 t) (iblk m c 5 t) (iblk m c 6 t) (iblk m c 7 t))
    (k0_pay12 (iblk m c 0 t) (iblk m c 1 t) (iblk m c 2 t) (iblk m c 3 t) (iblk m c 4 t) (iblk m c 5 t) (iblk m c 6 t) (iblk m c 7 t))
    (k0_pay9 (iblk m c 0 t) (iblk m c 1 t) (iblk m c 2 t) (iblk m c 3 t) (iblk m c 4 t) (iblk m c 5 t) (iblk m c 6 t) (iblk m c 7 t)) (iblk m c 2 t)

/-- The `t`th block of the normalised sum. -/
abbrev normBlk (c : Dev nD) (t : Fin cfg0.N) : FVec Ideal S512x2048 .f32 :=
  k0_pay6 (F := Ideal) (k0_pay10 (iblk m c 0 t) (iblk m c 1 t) (iblk m c 2 t) (iblk m c 3 t) (iblk m c 4 t) (iblk m c 5 t) (iblk m c 6 t) (iblk m c 7 t))
    (k0_pay11 (iblk m c 0 t) (iblk m c 1 t) (iblk m c 2 t) (iblk m c 3 t) (iblk m c 4 t) (iblk m c 5 t) (iblk m c 6 t) (iblk m c 7 t))
    (k0_pay12 (iblk m c 0 t) (iblk m c 1 t) (iblk m c 2 t) (iblk m c 3 t) (iblk m c 4 t) (iblk m c 5 t) (iblk m c 6 t) (iblk m c 7 t))
    (k0_pay9 (iblk m c 0 t) (iblk m c 1 t) (iblk m c 2 t) (iblk m c 3 t) (iblk m c 4 t) (iblk m c 5 t) (iblk m c 6 t) (iblk m c 7 t)) (iblk m c 2 t) (iblk m c 6 t)

open Cert.ReferenceOutprojIdeal.Read in
theorem sumBlk_apply (c : Dev nD) (t : Fin cfg0.N) (r : Fin 512) (k : Fin 2048) : sumBlk m c t (ix2 r k)
    = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (ix2 (row t r) k) := by
  obtain ⟨e0, e1, e2, e3, e4, e5, e6, e7, e8, e9, e10⟩ := idx t
  unfold sumBlk
  pointwise [k0_pay12, k0_pay11, k0_pay10, k0_pay9, k0_pay5, k0_pay4, k0_pay3, k0_pay2, val_main_v34, val_main_v33, val_main_v32, val_main_v31,
    val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2, val_main_cst_3,
    val_main_cst_4]
  blk_point [iblk, V, row, e0, e1, e2, e3, e4, e5, e6, e7]

open Cert.ReferenceOutprojIdeal.Read in
theorem normBlk_apply (c : Dev nD) (t : Fin cfg0.N) (r : Fin 512) (k : Fin 2048) : normBlk m c t (ix2 r k)
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (ix2 (row t r) k) := by
  obtain ⟨e0, e1, e2, e3, e4, e5, e6, e7, e8, e9, e10⟩ := idx t
  unfold normBlk k0_pay6
  have hx := sumBlk_apply m c t
  unfold sumBlk at hx
  generalize k0_pay5 (F := Ideal) _ _ _ _ _ = X at hx ⊢
  pointwise [val_main_v49, val_main_v48, val_main_v47, val_main_v46, val_main_v45, val_main_v44, val_main_v43, val_main_v42, val_main_v41,
    val_main_v40, val_main_v39, val_main_v38, val_main_v37, val_main_v36, val_main_v35, val_main_cst_5, val_main_cst_6, val_main_cst_7]
  simp only [hx]
  blk_point [iblk, V, row, e0, e1, e2, e3, e4, e5, e6, e7]

open Cert.ReferenceOutprojIdeal.Read in
/-- A normalised row is real where the gains are. -/
theorem norm_real (c : Dev nD) (hg : ∀ k : Fin 2048, IsReal (m ((c : Thread nD τ).loc main_arg6) (ix2 1 k))) (i : Fin 49152) (k : Fin 2048) :
    IsReal (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (ix2 i k)) := by
  pointwise [val_main_v49, val_main_v48, val_main_v47, val_main_v46, val_main_v45, val_main_v44, val_main_v43, val_main_v42, val_main_v41,
    val_main_v40, val_main_v39, val_main_v38, val_main_v37, val_main_v36, val_main_v35, val_main_cst_5, val_main_cst_6, val_main_cst_7]
  exact (isReal_rms (fun k => val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i k)) k).mul (hg k)

open Cert.ReferenceOutprojIdeal.Read in
/-- The first result, the residual sum. -/
theorem out8 (c : Dev nD) : (dats (F := Ideal) m 0 c).arrAt 8 cfg0.N
    = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  frame_out
  obtain ⟨e0, e1, e2, e3, e4, e5, e6, e7, e8, e9, e10⟩ := idx t
  refine .trans (congrArg _ (eq_ix2 _)) ((sumBlk_apply m c t (y 0) (y 1)).trans (congrArg _ ?_))
  blk_ext [row, e8]

open Cert.ReferenceOutprojIdeal.Read in
/-- The second result, the normalised sum. -/
theorem out9 (c : Dev nD) : (dats (F := Ideal) m 0 c).arrAt 9 cfg0.N
    = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  frame_out
  obtain ⟨e0, e1, e2, e3, e4, e5, e6, e7, e8, e9, e10⟩ := idx t
  refine .trans (congrArg _ (eq_ix2 _)) ((normBlk_apply m c t (y 0) (y 1)).trans (congrArg _ ?_))
  blk_ext [row, e9]

/-- The router's weights as the kernel reads them, the upper half of the stacked rows. -/
theorem router_hi (c : Dev nD) (t : Fin cfg0.N) (e : Fin 16) (k : Fin 2048) :
    iblk m c 7 t (ix2 ⟨e.val, by omega⟩ k) = m ((c : Thread nD τ).loc main_arg7) (ix3 1 k e) := by
  obtain ⟨e0, e1, e2, e3, e4, e5, e6, e7, e8, e9, e10⟩ := idx t
  have hx : ((cfg0.win 7).blk t).view.emb (ix2 ⟨e.val, by omega⟩ k) = ix2 ⟨e.val, by omega⟩ k := by
    blk_ext [e7]
  refine (congrArg (V m c main_v17) hx).trans ?_
  unfold V
  entry_read
  pointwise

/-- The lower half of the stacked rows: what rounding the weights leaves, nothing where they are real. -/
theorem router_lo (c : Dev nD) (hw : ∀ (k : Fin 2048) (e : Fin 16), IsReal (m ((c : Thread nD τ).loc main_arg7) (ix3 1 k e)))
    (t : Fin cfg0.N) (e : Fin 16) (k : Fin 2048) : iblk m c 7 t (ix2 ⟨16 + e.val, by omega⟩ k) = (0 : EReal) := by
  obtain ⟨e0, e1, e2, e3, e4, e5, e6, e7, e8, e9, e10⟩ := idx t
  refine Eq.trans ?_ (hw k e).sub_self
  have hx : ((cfg0.win 7).blk t).view.emb (ix2 ⟨16 + e.val, by omega⟩ k) = ix2 ⟨16 + e.val, by omega⟩ k := by
    blk_ext [e7]
  refine (congrArg (V m c main_v17) hx).trans ?_
  unfold V
  entry_read
  pointwise

open Cert.ReferenceOutprojIdeal.Read in
/-- A router logit: the products with the rounded weights and rows, with what the rounding left of either added. -/
theorem logit (c : Dev nD) (hg : ∀ k : Fin 2048, IsReal (m ((c : Thread nD τ).loc main_arg6) (ix2 1 k)))
    (hw : ∀ (k : Fin 2048) (e : Fin 16), IsReal (m ((c : Thread nD τ).loc main_arg7) (ix3 1 k e))) (t : Fin cfg0.N) (r : Fin 512)
    (e : Fin 16) (H : FVec Ideal S512x2048 .f32) (hH : ∀ r k, H (ix2 r k) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (ix2 (row t r) k)) :
    (∑ k : Fin 2048, HMul.hMul (α := EReal) (β := EReal) (γ := EReal) (iblk m c 7 t (ix2 ⟨e.val, by omega⟩ k)) (H (ix2 r k)))
      + (∑ k : Fin 2048, HMul.hMul (α := EReal) (β := EReal) (γ := EReal) (iblk m c 7 t (ix2 ⟨16 + e.val, by omega⟩ k)) (H (ix2 r k)))
      + (∑ k : Fin 2048, HMul.hMul (α := EReal) (β := EReal) (γ := EReal) (iblk m c 7 t (ix2 ⟨e.val, by omega⟩ k)) (HSub.hSub (α := EReal) (β := EReal) (γ := EReal) (H (ix2 r k)) (H (ix2 r k))))
    = ∑ k : Fin 2048, HMul.hMul (α := EReal) (β := EReal) (γ := EReal)
        (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) k))
        (m ((c : Thread nD τ).loc main_arg7) (ix3 1 k e)) := by
  have h1 : ∀ k, HSub.hSub (α := EReal) (β := EReal) (γ := EReal)
      (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) k))
      (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) k)) = 0 :=
    fun k => (norm_real m c hg _ _).sub_self
  simp only [hH, h1, router_lo m c hw, router_hi, zero_mul, mul_zero, Finset.sum_const_zero, add_zero]
  exact Finset.sum_congr rfl fun k _ => mul_comm (G := EReal) _ _

/-- The `t`th block of the affinities. -/
abbrev affBlk (c : Dev nD) (t : Fin cfg0.N) : FVec Ideal S16x512 .f32 :=
  k0_pay1 (F := Ideal) (k0_pay8 (k0_pay10 (iblk m c 0 t) (iblk m c 1 t) (iblk m c 2 t) (iblk m c 3 t) (iblk m c 4 t) (iblk m c 5 t) (iblk m c 6 t) (iblk m c 7 t))
    (k0_pay11 (iblk m c 0 t) (iblk m c 1 t) (iblk m c 2 t) (iblk m c 3 t) (iblk m c 4 t) (iblk m c 5 t) (iblk m c 6 t) (iblk m c 7 t))
    (k0_pay12 (iblk m c 0 t) (iblk m c 1 t) (iblk m c 2 t) (iblk m c 3 t) (iblk m c 4 t) (iblk m c 5 t) (iblk m c 6 t) (iblk m c 7 t))
    (k0_pay9 (iblk m c 0 t) (iblk m c 1 t) (iblk m c 2 t) (iblk m c 3 t) (iblk m c 4 t) (iblk m c 5 t) (iblk m c 6 t) (iblk m c 7 t)) (iblk m c 2 t) (iblk m c 6 t) (iblk m c 7 t) (View.ld (iblk m c 7 t) r0_7))

open Cert.ReferenceOutprojIdeal.Read in
theorem affBlk_apply (c : Dev nD) (hg : ∀ k : Fin 2048, IsReal (m ((c : Thread nD τ).loc main_arg6) (ix2 1 k)))
    (hw : ∀ (k : Fin 2048) (e : Fin 16), IsReal (m ((c : Thread nD τ).loc main_arg7) (ix3 1 k e))) (t : Fin cfg0.N)
    (e : Fin 16) (r : Fin 512) : affBlk m c t (ix2 e r)
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      (ix2 e (row t r)) := by
  have hv := normBlk_apply m c t
  unfold affBlk k0_pay1 k0_pay8 k0_pay7
  unfold normBlk at hv
  generalize k0_pay6 (F := Ideal) _ _ _ _ _ _ = H at hv ⊢
  have hl := fun e => logit m c hg hw t r e H hv
  pointwise [val_main_v65, val_main_v64, val_main_v63, val_main_v62, val_main_v61, val_main_v60, val_main_v59, val_main_v58, val_main_v57,
    val_main_v56, val_main_v55, val_main_v54, val_main_v53, val_main_v52, val_main_v51, val_main_v50, val_main_cst_8, val_main_cst_9,
    val_main_cst_10]
  simp only [hl, ofBits_neg_inf, bot_sup_eq]

open Cert.ReferenceOutprojIdeal.Read in
/-- The third result, the experts' affinities. -/
theorem out10 (c : Dev nD) (hg : ∀ k : Fin 2048, IsReal (m ((c : Thread nD τ).loc main_arg6) (ix2 1 k)))
    (hw : ∀ (k : Fin 2048) (e : Fin 16), IsReal (m ((c : Thread nD τ).loc main_arg7) (ix3 1 k e))) :
    (dats (F := Ideal) m 0 c).arrAt 10 cfg0.N
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp
  rw [after0_10]
  frame_out
  obtain ⟨e0, e1, e2, e3, e4, e5, e6, e7, e8, e9, e10⟩ := idx t
  refine .trans (congrArg _ (eq_ix2 _)) ((affBlk_apply m c hg hw t (y 0) (y 1)).trans (congrArg _ ?_))
  blk_ext [row, e10]

theorem algebraic : Cert.algebraic_OutprojIdeal_ReferenceOutprojIdeal_pre_finite_router (hOutprojIdeal := Cert.OutprojIdeal.Gen.facts)
    (hReferenceOutprojIdeal := Cert.ReferenceOutprojIdeal.Gen.facts) (hPre_finite_router := Cert.Pre_finite_router.Gen.facts) := by
  intro m g m' g' hp hm
  have hg : ∀ (c : Dev nD) (k : Fin 2048), IsReal (m ((c : Thread nD τ).loc main_arg6) (ix2 1 k)) := fun c k => by
    have h := congrFun (hp c).1 (ix1 k)
    unfold Cert.Pre_finite_router.fn at h
    pointwise at h
    exact IsReal.of_cmp h
  have hw : ∀ (c : Dev nD) (k : Fin 2048) (e : Fin 16), IsReal (m ((c : Thread nD τ).loc main_arg7) (ix3 1 k e)) := fun c k e => by
    have h := congrFun (hp c).2 (ix2 k e)
    unfold Cert.Pre_finite_router.fn at h
    pointwise at h
    exact IsReal.of_cmp h
  refine ⟨_, _, _, Cert.OutprojIdeal.Value.run_blocks m g,
    (θ_run _ _ _).mono (fun r h c => ⟨?_, ?_, ?_, (h c).2.2.2⟩) (Cert.ReferenceOutprojIdeal.Value.run m' g')⟩
  · rw [out8]
    refine (h c).1.trans ?_
    rw [(hm c).1, (hm c).2.1, (hm c).2.2.1, (hm c).2.2.2.1, (hm c).2.2.2.2.1, (hm c).2.2.2.2.2.1]
    exact Cert.ReferenceOutprojIdeal.Read.val_main_v34_eq _ _ _ _ _ _
  · rw [out9]
    refine (h c).2.1.trans ((Cert.ReferenceOutprojIdeal.Read.val_main_v64_eq m' c).trans ?_)
    rw [(hm c).1, (hm c).2.1, (hm c).2.2.1, (hm c).2.2.2.1, (hm c).2.2.2.2.1, (hm c).2.2.2.2.2.1, (hm c).2.2.2.2.2.2.1]
  · rw [out10 m c (hg c) (hw c)]
    refine (h c).2.2.1.trans ((Cert.ReferenceOutprojIdeal.Read.val_main_v65_eq m' c).trans ?_)
    rw [(hm c).1, (hm c).2.1, (hm c).2.2.1, (hm c).2.2.2.1, (hm c).2.2.2.2.1, (hm c).2.2.2.2.2.1, (hm c).2.2.2.2.2.2.1, (hm c).2.2.2.2.2.2.2]

end Cert.Proof.Outproj

end
-- ==== Proof.Experts.lean ====
/- The experts: the run of the kernel and the run of the reference, element by element. -/
module

public import proofs.«01_k».proof.Defs
public import proofs.«01_k».proof.Proof.Gen.ExpertsIdeal.Value
public import proofs.«01_k».proof.Proof.Gen.ReferenceExpertsIdeal.Read
public import Idealize.ShloMosaic.Lib.Pipeline.ValueKit
public import Idealize.ShloMosaic.Lib.Pointwise

@[expose] public section

set_option maxRecDepth 16384

noncomputable section

namespace Cert.Proof.Experts

open Idealize.ShloMosaic Idealize.ShloMosaic.TcCoe Idealize.SL.Sem
open Cert.ExpertsIdeal Cert.ExpertsIdeal.Gen

variable (m : (ℓ : Loc nD τ sig) → Buf (Elt Ideal) ℓ)

theorem idx (t : Fin cfg0.N) :
    win0_0.index t = ![(grid0.coords t 0).val * 12 + (grid0.coords t 1).val, 0] ∧ win0_1.index t = ![1, (grid0.coords t 0).val, 0, 0]
    ∧ win0_2.index t = ![1, (grid0.coords t 0).val, 0, 0] ∧ win0_3.index t = ![1, (grid0.coords t 0).val, 0, 0]
    ∧ win0_4.index t = ![(grid0.coords t 0).val * 12 + (grid0.coords t 1).val, 0] :=
  (by decide +kernel : ∀ t : Fin grid0.N,
    win0_0.index t = ![(grid0.coords t 0).val * 12 + (grid0.coords t 1).val, 0] ∧ win0_1.index t = ![1, (grid0.coords t 0).val, 0, 0]
    ∧ win0_2.index t = ![1, (grid0.coords t 0).val, 0, 0] ∧ win0_3.index t = ![1, (grid0.coords t 0).val, 0, 0]
    ∧ win0_4.index t = ![(grid0.coords t 0).val * 12 + (grid0.coords t 1).val, 0]) t

/-- The lanes whose last four bits are `e` are the lane `e` of each of the eight groups of sixteen. -/
theorem gate_lanes (e : Fin 16) (g : Fin 128 → EReal) :
    ∑ x, Scalar.select (IntOp.cmpi .eq (IntOp.andi (BitVec.ofNat 32 x.val) 15#32) (BitVec.ofNat 32 e.val)) (g x) 0
      = ∑ k : Fin 8, g ⟨k.val * 16 + e.val, by omega⟩ := by
  have h : ∀ (e : Fin 16) (x : Fin 128), IntOp.cmpi .eq (IntOp.andi (BitVec.ofNat 32 x.val) 15#32) (BitVec.ofNat 32 e.val)
      = BitVec.ofBool (decide (x.val % 16 = e.val)) := by decide +kernel
  simp only [h, Scalar.select_decide, ← Finset.sum_filter]
  refine Finset.sum_nbij' (fun x => ⟨x.val / 16, by omega⟩) (fun k => ⟨k.val * 16 + e.val, by omega⟩) ?_ ?_ ?_ ?_ ?_
  · intro x _; exact Finset.mem_univ _
  · intro k _; simp only [Finset.mem_filter, Finset.mem_univ, true_and]; omega
  · intro x hx; simp only [Finset.mem_filter, Finset.mem_univ, true_and] at hx; ext; simp only; omega
  · intro k _; ext; simp only <;> omega
  · intro x hx; simp only [Finset.mem_filter, Finset.mem_univ, true_and] at hx; exact congrArg g (Fin.ext (by dsimp only; omega))

/-- Of the sum over the experts only the term of the expert asked for is left. -/
theorem expert_pick (e : Fin 16) (g : Fin 16 → EReal) :
    ∑ x : Fin 16, Scalar.select (IntOp.cmpi .eq (BitVec.ofNat 32 x.val) (BitVec.ofNat 32 e.val)) (g x) 0 = g e := by
  have h : ∀ e x : Fin 16, IntOp.cmpi .eq (BitVec.ofNat 32 x.val) (BitVec.ofNat 32 e.val) = BitVec.ofBool (decide (x = e)) := by
    decide +kernel
  simp only [h, Scalar.select_decide, Finset.sum_ite_eq', Finset.mem_univ, if_true]

open Cert.ReferenceExpertsIdeal.Read in
theorem out4 (c : Dev nD) : (dats (F := Ideal) m 0 c).arrAt 4 cfg0.N
    = val_main_v29 (F := Ideal) (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  frame_out
  obtain ⟨e0, e1, e2, e3, e4⟩ := idx t
  pointwise [k0_pay1, val_main_v29, val_main_v28, val_main_v27, val_main_v26, val_main_v25, val_main_v24, val_main_v23,
    val_main_v22, val_main_v21, val_main_call0_v5, val_main_call0_v4, val_main_call0_cst_0, val_main_call0_v3, val_main_call0_v2,
    val_main_call0_cst, val_main_call0_v1, val_main_call0_v0, val_main_v20, val_main_v19, val_main_v18, val_main_v17,
    val_main_v16, val_main_v15, val_main_v14, val_main_v13, val_main_v12, val_main_v11, val_main_v10, val_main_cst, val_main_cst_0, val_main_cst_1,
    val_main_v9, val_main_v8, val_main_v7, val_main_v6,
    val_main_v5, val_main_v4, val_main_v3, val_main_v2, val_main_v1, val_main_v0]
  have hb : (grid0.coords t 0).val < 16 := (grid0.coords t 0).isLt
  have hc : (grid0.coords t 1).val < 12 := (grid0.coords t 1).isLt
  have hy : (y 0).val < 512 := (y 0).isLt
  have hq : (((View.whole main_v3).slice (win0_4.rect t)).emb y 0).val / 6144 = (grid0.coords t 0).val := by
    blk_simp [e4]
    omega
  simp only [hq]
  refine congrArg₂ (· * ·) (Finset.sum_congr rfl fun x _ => congrArg₂ (· * ·) ?_ ?_) ?_
  · have hg : (∑ d : Fin 2048, HMul.hMul (α := EReal) (β := EReal) (γ := EReal) (iblk m c 0 t (ix2 (y 0) ⟨d.val, by omega⟩))
          (iblk m c 1 t (ix4 0 0 d x)))
        = ∑ d : Fin 2048, HMul.hMul (α := EReal) (β := EReal) (γ := EReal)
          (m ((c : Thread nD τ).loc main_arg0) (ix2 (((View.whole main_v3).slice (win0_4.rect t)).emb y 0) ⟨d.val, by omega⟩))
          (m ((c : Thread nD τ).loc main_arg1) (ix4 1 ⟨(grid0.coords t 0).val, hb⟩ d x)) := by
      blk_point [iblk, V, e0, e1, e2, e3, e4]
    refine congrArg₂ (· * ·) ?_ ?_
    · rw [hg]
      rfl
    · blk_point [iblk, V, e0, e1, e2, e3, e4]
  · blk_point [iblk, V, e0, e1, e2, e3, e4]
  · refine (gate_lanes ⟨_, hb⟩ fun x => iblk m c 0 t (ix2 (y 0) ⟨2048 + x.val, by omega⟩)).trans ?_
    refine .trans ?_ (expert_pick ⟨_, hb⟩ fun x => ∑ k : Fin 8, m ((c : Thread nD τ).loc main_arg0)
      (ix2 ⟨x.val * 6144 + (((View.whole main_v3).slice (win0_4.rect t)).emb y 0).val % 6144, by omega⟩
        ⟨2048 + (k.val * 16 + (grid0.coords t 0).val), by omega⟩)).symm
    blk_point [iblk, V, e0, e1, e2, e3, e4]

theorem algebraic : Cert.algebraic_ExpertsIdeal_ReferenceExpertsIdeal (hExpertsIdeal := Cert.ExpertsIdeal.Gen.facts)
    (hReferenceExpertsIdeal := Cert.ReferenceExpertsIdeal.Gen.facts) := by
  intro m g m' g' _ hm
  refine ⟨_, Cert.ExpertsIdeal.Value.run_blocks m g,
    (θ_run _ _ _).mono (fun r h c => ⟨?_, (h c).2⟩) (Cert.ReferenceExpertsIdeal.Value.run m' g')⟩
  rw [out4]
  refine (h c).1.trans ?_
  rw [(hm c).1, (hm c).2.1, (hm c).2.2.1, (hm c).2.2.2]
  exact Cert.ReferenceExpertsIdeal.Read.val_main_v29_eq _ _ _ _

end Cert.Proof.Experts

end
-- ==== Proof.lean ====
/-
  The proof of `Cert.Claim` (proofs.«01_k».proof.Defs): four calls of one layer of the model, each against the same lines of
  the reference. Per call the kernel and its idealization run and leave their arguments alone (the generated Proof/Gen/
  runs), the idealization's ledger holds (`preserves`; Proof/Frames), and the result arrays are equal on the extended reals: Proof/Attention,
  Proof/Inproj, Proof/Outproj, Proof/Experts, one module a call. Assembled here behind the witnesses of the programs' stated
  facts.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.KernelIdeal.Value
public import proofs.«01_k».proof.Proof.Gen.InprojIdeal.Value
public import proofs.«01_k».proof.Proof.Gen.OutprojIdeal.Value
public import proofs.«01_k».proof.Proof.Gen.ExpertsIdeal.Value
public import proofs.«01_k».proof.Proof.Gen.ReferenceIdeal
public import proofs.«01_k».proof.Proof.Gen.ReferenceIdeal.Run
public import proofs.«01_k».proof.Proof.Gen.ReferenceInprojIdeal
public import proofs.«01_k».proof.Proof.Gen.ReferenceInprojIdeal.Run
public import proofs.«01_k».proof.Proof.Gen.ReferenceInprojIdeal.Read
public import proofs.«01_k».proof.Proof.Gen.ReferenceOutprojIdeal
public import proofs.«01_k».proof.Proof.Gen.ReferenceOutprojIdeal.Run
public import proofs.«01_k».proof.Proof.Gen.ReferenceOutprojIdeal.Read
public import proofs.«01_k».proof.Proof.Gen.ReferenceExpertsIdeal
public import proofs.«01_k».proof.Proof.Gen.ReferenceExpertsIdeal.Run
public import proofs.«01_k».proof.Proof.Gen.ReferenceExpertsIdeal.Read
public import proofs.«01_k».proof.Proof.Gen.Pre_finite_logits
public import proofs.«01_k».proof.Proof.Gen.Pre_finite_router
public import proofs.«01_k».proof.Proof.Attention
public import proofs.«01_k».proof.Proof.Frames
public import proofs.«01_k».proof.Proof.Inproj
public import proofs.«01_k».proof.Proof.Outproj
public import proofs.«01_k».proof.Proof.Experts
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
   Cert.KernelIdeal.Gen.facts,
   Cert.ReferenceIdeal.Gen.facts,
   Cert.Inproj.Gen.facts,
   Cert.InprojIdeal.Gen.facts,
   Cert.ReferenceInprojIdeal.Gen.facts,
   Cert.Outproj.Gen.facts,
   Cert.OutprojIdeal.Gen.facts,
   Cert.ReferenceOutprojIdeal.Gen.facts,
   Cert.Experts.Gen.facts,
   Cert.ExpertsIdeal.Gen.facts,
   Cert.ReferenceExpertsIdeal.Gen.facts,
   Cert.Pre_finite_logits.Gen.facts,
   Cert.Pre_finite_router.Gen.facts,
   Frames.kernel,
   Frames.kernelIdeal,
   fun m ρ _ => Frames.kernelIdeal m ρ trivial,
   Frames.referenceIdeal,
   fun m ρ _ => Frames.referenceIdeal m ρ trivial,
   Frames.inproj,
   Frames.inprojIdeal,
   Frames.referenceInprojIdeal,
   Frames.outproj,
   Frames.outprojIdeal,
   fun m ρ _ => Frames.outprojIdeal m ρ trivial,
   Frames.referenceOutprojIdeal,
   fun m ρ _ => Frames.referenceOutprojIdeal m ρ trivial,
   Frames.experts,
   Frames.expertsIdeal,
   Frames.referenceExpertsIdeal,
   Frames.preserves,
   Attention.algebraic,
   trivial,
   Inproj.algebraic,
   trivial,
   Outproj.algebraic,
   trivial,
   Experts.algebraic⟩

end Cert.Proof

end
